-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_named_and_finite [hPre_named_and_finite : Cert.Pre_named_and_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_named_and_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_named_and_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_named_and_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_named_and_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_named_and_finite [hPre_named_and_finite : Cert.Pre_named_and_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_named_and_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_named_and_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_named_and_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_named_and_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0))) = (fun _ => 1#1)

def Pre_Kernel4 [hPre_rows_named : Cert.Pre_rows_named.Facts] (m : (ℓ : Loc Cert.Kernel4.nD Cert.Kernel4.τ Cert.Kernel4.sig) → Buf (Elt Bits) ℓ) : Prop :=
  ∀ c : Dev Cert.Kernel4.nD,
    (Cert.Pre_rows_named.fn (F := Bits) (m ((c.tc : Thread Cert.Kernel4.nD Cert.Kernel4.τ).loc Cert.Kernel4.main_arg0)) (m ((c.tc : Thread Cert.Kernel4.nD Cert.Kernel4.τ).loc Cert.Kernel4.main_arg1))) = (fun _ => 1#1)

def Pre_Kernel4Ideal [hPre_rows_named : Cert.Pre_rows_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_rows_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal [hPre_rows_named : Cert.Pre_rows_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_rows_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_named_and_finite [hKernel2Ideal : Cert.Kernel2Ideal.Facts] [hPre_named_and_finite : Cert.Pre_named_and_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_named_and_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_named_and_finite [hReference2Ideal : Cert.Reference2Ideal.Facts] [hPre_named_and_finite : Cert.Pre_named_and_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_named_and_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0))
      ∧ r.2.sem = fun _ => 0)

def quiescent_Kernel4 [hKernel4 : Cert.Kernel4.Facts] [hPre_rows_named : Cert.Pre_rows_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] [hPre_rows_named : Cert.Pre_rows_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] [hPre_rows_named : Cert.Pre_rows_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_on_clear_of_the_cut_pre_named_and_finite [hKernel2Ideal : Cert.Kernel2Ideal.Facts] [hReference2Ideal : Cert.Reference2Ideal.Facts] [hPre_named_and_finite : Cert.Pre_named_and_finite.Facts] [hOn_clear_of_the_cut : Cert.On_clear_of_the_cut.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_named_and_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![64, 100000]⟩ : Shape).Idx, (Cert.On_clear_of_the_cut.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) i = 1#1 → r.2.mem ((c.tc : Thread Cert.Kernel2Ideal.nD Cert.Kernel2Ideal.τ).loc Cert.Kernel2Ideal.main_v0) i = v0 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![64, 100000]⟩ : Shape).Idx, (Cert.On_clear_of_the_cut.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) i = 1#1 → r.2.mem ((c.tc : Thread Cert.Reference2Ideal.nD Cert.Reference2Ideal.τ).loc Cert.Reference2Ideal.main_v82) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_on_clear_of_a_tie_pre_finite [hKernel3Ideal : Cert.Kernel3Ideal.Facts] [hReference3Ideal : Cert.Reference3Ideal.Facts] [hPre_finite : Cert.Pre_finite.Facts] [hOn_clear_of_a_tie : Cert.On_clear_of_a_tie.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          (∀ i : (⟨2, ![64, 32]⟩ : Shape).Idx, (Cert.On_clear_of_a_tie.fn (F := Ideal) (m ((c.tc : Thread Cert.Kernel3Ideal.nD Cert.Kernel3Ideal.τ).loc Cert.Kernel3Ideal.main_arg0))) i = 1#1 → r.2.mem ((c.tc : Thread Cert.Kernel3Ideal.nD Cert.Kernel3Ideal.τ).loc Cert.Kernel3Ideal.main_v0) i = v0 c i)
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          (∀ i : (⟨2, ![64, 32]⟩ : Shape).Idx, (Cert.On_clear_of_a_tie.fn (F := Ideal) (m ((c.tc : Thread Cert.Kernel3Ideal.nD Cert.Kernel3Ideal.τ).loc Cert.Kernel3Ideal.main_arg0))) i = 1#1 → r.2.mem ((c.tc : Thread Cert.Reference3Ideal.nD Cert.Reference3Ideal.τ).loc Cert.Reference3Ideal.main_v0) i = v0 c i)
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0))

def preserves_Kernel4_Kernel4Ideal : Prop :=
  True

def algebraic_Kernel4Ideal_Reference4Ideal [hKernel4Ideal : Cert.Kernel4Ideal.Facts] [hReference4Ideal : Cert.Reference4Ideal.Facts] [hPre_rows_named : Cert.Pre_rows_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_named_and_finite : Cert.Pre_named_and_finite.Facts) (hPre_finite : Cert.Pre_finite.Facts) (hPre_rows_named : Cert.Pre_rows_named.Facts) (hOn_clear_of_the_cut : Cert.On_clear_of_the_cut.Facts) (hOn_clear_of_a_tie : Cert.On_clear_of_a_tie.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_named_and_finite (hKernel2Ideal := hKernel2Ideal) (hPre_named_and_finite := hPre_named_and_finite)
    ∧ quiescent_Reference2Ideal (hReference2Ideal := hReference2Ideal)
    ∧ quiescent_Reference2Ideal_pre_named_and_finite (hReference2Ideal := hReference2Ideal) (hPre_named_and_finite := hPre_named_and_finite)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4) (hPre_rows_named := hPre_rows_named)
    ∧ quiescent_Kernel4Ideal (hKernel4Ideal := hKernel4Ideal) (hPre_rows_named := hPre_rows_named)
    ∧ quiescent_Reference4Ideal (hReference4Ideal := hReference4Ideal) (hPre_rows_named := hPre_rows_named)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_on_clear_of_the_cut_pre_named_and_finite (hKernel2Ideal := hKernel2Ideal) (hReference2Ideal := hReference2Ideal) (hPre_named_and_finite := hPre_named_and_finite) (hOn_clear_of_the_cut := hOn_clear_of_the_cut)
    ∧ preserves_Kernel3_Kernel3Ideal
    ∧ algebraic_Kernel3Ideal_Reference3Ideal_on_clear_of_a_tie_pre_finite (hKernel3Ideal := hKernel3Ideal) (hReference3Ideal := hReference3Ideal) (hPre_finite := hPre_finite) (hOn_clear_of_a_tie := hOn_clear_of_a_tie)
    ∧ preserves_Kernel4_Kernel4Ideal
    ∧ algebraic_Kernel4Ideal_Reference4Ideal (hKernel4Ideal := hKernel4Ideal) (hReference4Ideal := hReference4Ideal) (hPre_rows_named := hPre_rows_named)
-- ==== On_clear_of_a_tie.lean ====
abbrev S64x100000 : Shape := ⟨2, ![64, 100000]⟩
abbrev S64x33 : Shape := ⟨2, ![64, 33]⟩
abbrev S_ : Shape := ⟨0, ![]⟩
abbrev S64 : Shape := ⟨1, ![64]⟩
abbrev S64x1 : Shape := ⟨2, ![64, 1]⟩
abbrev S64x32 : Shape := ⟨2, ![64, 32]⟩

class Facts : Prop where
  sliceFits_S64x100000_S64x33 : S64x100000.Slices (fun _ => 0) S64x33
  reducesTo_S64x100000_S64_d1 : S64x100000.ReducesTo [1] S64
  h_S_ : 0 < S_.numel
  bcast_S64_S64x1_0 : S64.BroadcastsInDim S64x1 (![0] : Fin 1 → Fin S64x1.rank)
  bcast_S_S64x1 : S_.BroadcastsInDim S64x1 (![] : Fin 0 → Fin S64x1.rank)
  slices_S64x33_S64x1_0_31 : S64x33.Slices ![0, 31] S64x1
  slices_S64x33_S64x1_0_32 : S64x33.Slices ![0, 32] S64x1
  bcast_S64x1_S64x32_0_1 : S64x1.BroadcastsInDim S64x32 (![0, 1] : Fin 2 → Fin S64x32.rank)

variable [Facts]

def fn {F : FTy → Type} [FloatOps F] (main_arg0 : FVec F S64x100000 .f32) : IVec S64x32 1 :=
  let main_values : FVec F S64x33 .f32 := (fun x => (Host.topK S64x33 1 (FloatOps.cmpfTotal .gt) x sliceFits_S64x100000_S64x33).1) main_arg0
  let main_indices : IVec S64x33 32 := (fun x => (Host.topK S64x33 1 (FloatOps.cmpfTotal .gt) x sliceFits_S64x100000_S64x33).2) main_arg0
  let main_cst : FVec F S_ .f32 := constant S_ .f32 0xFF800000#32
  let main_v0 : FVec F S64 .f32 := (fun x v => Host.reduce FloatOps.maximumf x v reducesTo_S64x100000_S64_d1 h_S_) main_arg0 main_cst
  let main_v1 : FVec F S64x1 .f32 := broadcastInDim S64x1 ![0] bcast_S64_S64x1_0 main_v0
  let main_cst_0 : FVec F S_ .f32 := constant S_ .f32 0x7F800000#32
  let main_v2 : FVec F S64 .f32 := (fun x v => Host.reduce FloatOps.minimumf x v reducesTo_S64x100000_S64_d1 h_S_) main_arg0 main_cst_0
  let main_v3 : FVec F S64x1 .f32 := broadcastInDim S64x1 ![0] bcast_S64_S64x1_0 main_v2
  let main_v4 : FVec F S64x1 .f32 := subf main_v1 main_v3
  let main_cst_1 : FVec F S_ .f32 := constant S_ .f32 0x3F800000#32
  let main_v5 : FVec F S64x1 .f32 := broadcastInDim S64x1 ![] bcast_S_S64x1 main_cst_1
  let main_v6 : FVec F S64x1 .f32 := addf main_v4 main_v5
  let main_cst_2 : FVec F S_ .f32 := constant S_ .f32 0x4F800000#32
  let main_v7 : FVec F S64x1 .f32 := broadcastInDim S64x1 ![] bcast_S_S64x1 main_cst_2
  let main_v8 : FVec F S64x1 .f32 := Host.divf main_v6 main_v7
  let main_v9 : FVec F S64x1 .f32 := (extractStridedSlice S64x1 ![0, 31] · slices_S64x33_S64x1_0_31) main_values
  let main_v10 : FVec F S64x1 .f32 := (extractStridedSlice S64x1 ![0, 32] · slices_S64x33_S64x1_0_32) main_values
  let main_v11 : FVec F S64x1 .f32 := addf main_v10 main_v8
  let main_v12 : IVec S64x1 1 := cmpf .ogt main_v9 main_v11
  let main_v13 : IVec S64x32 1 := broadcastInDim S64x32 ![0, 1] bcast_S64x1_S64x32_0_1 main_v12
  main_v13
-- ==== On_clear_of_the_cut.lean ====
abbrev S64x100000 : Shape := ⟨2, ![64, 100000]⟩
abbrev S64x32 : Shape := ⟨2, ![64, 32]⟩
abbrev S64 : Shape := ⟨1, ![64]⟩
abbrev S64x1 : Shape := ⟨2, ![64, 1]⟩
abbrev S_ : Shape := ⟨0, ![]⟩
abbrev S64x32x1 : Shape := ⟨3, ![64, 32, 1]⟩
abbrev S64x32x2 : Shape := ⟨3, ![64, 32, 2]⟩
abbrev S64x100000x1 : Shape := ⟨3, ![64, 100000, 1]⟩
abbrev S1 : Shape := ⟨1, ![1]⟩
abbrev S1x1x1 : Shape := ⟨3, ![1, 1, 1]⟩
abbrev S64x99999 : Shape := ⟨2, ![64, 99999]⟩

class Facts : Prop where
  bcast_S64_S64x1_0 : S64.BroadcastsInDim S64x1 (![0] : Fin 1 → Fin S64x1.rank)
  bcast_S_S64x100000 : S_.BroadcastsInDim S64x100000 (![] : Fin 0 → Fin S64x100000.rank)
  bcast_S_S64x1 : S_.BroadcastsInDim S64x1 (![] : Fin 0 → Fin S64x1.rank)
  bcast_S_S64x32 : S_.BroadcastsInDim S64x32 (![] : Fin 0 → Fin S64x32.rank)
  bcast_S64x1_S64x32_0_1 : S64x1.BroadcastsInDim S64x32 (![0, 1] : Fin 2 → Fin S64x32.rank)
  bcast_S64x32_S64x32x1_0_1 : S64x32.BroadcastsInDim S64x32x1 (![0, 1] : Fin 2 → Fin S64x32x1.rank)
  concatenates_S64x32x1_S64x32x1_S64x32x2_d2 : Shape.Concatenates [S64x32x1, S64x32x1] S64x32x2 2
  shapeCasts_S64x100000_S64x100000x1 : S64x100000.ShapeCasts S64x100000x1
  bcast_S_S64x100000x1 : S_.BroadcastsInDim S64x100000x1 (![] : Fin 0 → Fin S64x100000x1.rank)
  bcast_S1_S1x1x1_2 : S1.BroadcastsInDim S1x1x1 (![2] : Fin 1 → Fin S1x1x1.rank)
  bcast_S1x1x1_S64x100000x1_0_1_2 : S1x1x1.BroadcastsInDim S64x100000x1 (![0, 1, 2] : Fin 3 → Fin S64x100000x1.rank)
  reducesTo_S64x100000x1_S64x100000_d2 : S64x100000x1.ReducesTo [2] S64x100000
  h_S_ : 0 < S_.numel
  reducesTo_S64x100000_S64_d1 : S64x100000.ReducesTo [1] S64
  bcast_S_S64 : S_.BroadcastsInDim S64 (![] : Fin 0 → Fin S64.rank)
  bcast_S64x1_S64x100000_0_1 : S64x1.BroadcastsInDim S64x100000 (![0, 1] : Fin 2 → Fin S64x100000.rank)
  bcast_S_S_ : S_.BroadcastsInDim S_ (![] : Fin 0 → Fin S_.rank)
  reduceWindows_S64x100000_S64x100000_w1s1p0_0_w100000s1p99999_0 : S64x100000.ReduceWindows (![1, 100000] : Fin 2 → Nat) ![1, 1] ![0, 99999] ![0, 0] S64x100000
  slices_S64x100000_S64x1_0_0 : S64x100000.Slices ![0, 0] S64x1
  slices_S64x100000_S64x99999_0_0 : S64x100000.Slices ![0, 0] S64x99999
  concatenates_S64x1_S64x99999_S64x100000_d1 : Shape.Concatenates [S64x1, S64x99999] S64x100000 1
  scatter_S64x100000_S64x32x2_S64x32_n_01_01_2_wf : ScatterDims.WF S64x100000 S64x32x2 S64x32 [] [0, 1] [0, 1] 2
  gather_S64x100000_S64x100000x1_S64x100000_n_1_0_0_1_2_11_wf : GatherDims.WF S64x100000 S64x100000x1 S64x100000 [] [1] [0] [1] [0] 2 ![1, 1]

variable [Facts]

variable {F : FTy → Type} [FloatOps F]
def scatter_S64x100000_S64x32x2_S64x32_n_01_01_2 : ScatterDims S64x100000 S64x32x2 S64x32 where
  updateWindowDims := []
  insertedWindowDims := [0, 1]
  scatterDimsToOperandDims := [0, 1]
  indexVectorDim := 2
  wf := scatter_S64x100000_S64x32x2_S64x32_n_01_01_2_wf
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S64x100000_S64x100000x1_S64x100000_n_1_0_0_1_2_11 : GatherDims S64x100000 S64x100000x1 S64x100000 where
  offsetDims := []
  collapsedSliceDims := [1]
  operandBatchingDims := [0]
  startIndicesBatchingDims := [0]
  startIndexMap := [1]
  indexVectorDim := 2
  sliceSizes := ![1, 1]
  wf := gather_S64x100000_S64x100000x1_S64x100000_n_1_0_0_1_2_11_wf

def fn_argsort {F : FTy → Type} [FloatOps F] (arg0 : FVec F S64x100000 .f32) : IVec S64x100000 32 :=
  let v0 : IVec S64x100000 32 := iotaInDim S64x100000 32 1
  let v1_0 : FVec F S64x100000 .f32 := (fun x y => (Host.sort2 S64x100000 1 comparator_f32_i32_d1 x y).1) arg0 v0
  let v1_1 : IVec S64x100000 32 := (fun x y => (Host.sort2 S64x100000 1 comparator_f32_i32_d1 x y).2) arg0 v0
  v1_1

def fn_take_along_axis {F : FTy → Type} [FloatOps F] (arg0 : FVec F S64x100000 .f32) (arg1 : IVec S64x100000 32) : FVec F S64x100000 .f32 :=
  let c : IVec S_ 32 := constantI S_ 32 0#32
  let v0 : IVec S64x100000 32 := broadcastInDim S64x100000 ![] bcast_S_S64x100000 c
  let v1 : IVec S64x100000 1 := cmpi .slt arg1 v0
  let c_0 : IVec S_ 32 := constantI S_ 32 100000#32
  let v2 : IVec S64x100000 32 := broadcastInDim S64x100000 ![] bcast_S_S64x100000 c_0
  let v3 : IVec S64x100000 32 := addi arg1 v2
  let v4 : IVec S64x100000 32 := select v1 v3 arg1
  let v5 : IVec S64x100000x1 32 := shapeCast S64x100000x1 v4 shapeCasts_S64x100000_S64x100000x1
  let c_1 : IVec S1 32 := constantI S1 32 99999#32
  let c_2 : IVec S_ 32 := constantI S_ 32 0#32
  let v6 : IVec S64x100000x1 32 := broadcastInDim S64x100000x1 ![] bcast_S_S64x100000x1 c_2
  let v7 : IVec S64x100000x1 1 := cmpi .sge v5 v6
  let v8 : IVec S1x1x1 32 := broadcastInDim S1x1x1 ![2] bcast_S1_S1x1x1_2 c_1
  let v9 : IVec S64x100000x1 32 := broadcastInDim S64x100000x1 ![0, 1, 2] bcast_S1x1x1_S64x100000x1_0_1_2 v8
  let v10 : IVec S64x100000x1 1 := cmpi .sle v5 v9
  let v11 : IVec S64x100000x1 1 := andi v7 v10
  let c_3 : IVec S_ 1 := constantI S_ 1 1#1
  let v12 : IVec S64x100000 1 := (fun x v => Host.reduce IntOp.andi x v reducesTo_S64x100000x1_S64x100000_d2 h_S_) v11 c_3
  let v13 : FVec F S64x100000 .f32 := (fun x i => Host.gather gather_S64x100000_S64x100000x1_S64x100000_n_1_0_0_1_2_11 x i) arg0 v5
  let cst : FVec F S_ .f32 := constant S_ .f32 0x7FC00000#32
  let v14 : FVec F S64x100000 .f32 := broadcastInDim S64x100000 ![] bcast_S_S64x100000 cst
  let v15 : FVec F S64x100000 .f32 := select v12 v13 v14
  v15

def fn_cumsum_0 {F : FTy → Type} [FloatOps F] (arg0 : FVec F S64x100000 .f32) : FVec F S64x100000 .f32 :=
  let cst : FVec F S_ .f32 := constant S_ .f32 0x00000000#32
  let v0 : FVec F S_ .f32 := broadcastInDim S_ ![] bcast_S_S_ cst
  let v1 : FVec F S64x100000 .f32 := (fun x v => Host.reduceWindowAdd ![1, 100000] ![1, 1] ![0, 99999] ![0, 0] x v reduceWindows_S64x100000_S64x100000_w1s1p0_0_w100000s1p99999_0 h_S_) arg0 v0
  v1

def fn_cumsum {F : FTy → Type} [FloatOps F] (arg0 : FVec F S64x100000 .f32) : FVec F S64x100000 .f32 :=
  let v0 : FVec F S64x100000 .f32 := fn_cumsum_0 (F := F) arg0
  v0

def fn_where {F : FTy → Type} [FloatOps F] (arg0 : IVec S64x100000 1) (arg1 : FVec F S_ .f32) (arg2 : FVec F S64x100000 .f32) : FVec F S64x100000 .f32 :=
  let v0 : FVec F S_ .f32 := id arg1
  let v1 : FVec F S64x100000 .f32 := broadcastInDim S64x100000 ![] bcast_S_S64x100000 v0
  let v2 : FVec F S64x100000 .f32 := select arg0 v1 arg2
  v2

def fn_part4 {F : FTy → Type} [FloatOps F] (main_v42 : FVec F S64x100000 .f32) (main_v66 : FVec F S64x1 .f32) (main_v71 : FVec F S64x1 .f32) (main_cst_21 : FVec F S_ .f32) : IVec S64x100000 1 :=
  let main_v72 : FVec F S64x1 .f32 := broadcastInDim S64x1 ![] bcast_S_S64x1 main_cst_21
  let main_v73 : FVec F S64x1 .f32 := addf main_v71 main_v72
  let main_cst_22 : FVec F S_ .f32 := constant S_ .f32 0x4F800000#32
  let main_v74 : FVec F S64x1 .f32 := broadcastInDim S64x1 ![] bcast_S_S64x1 main_cst_22
  let main_v75 : FVec F S64x1 .f32 := Host.divf main_v73 main_v74
  let main_v76 : FVec F S64x100000 .f32 := broadcastInDim S64x100000 ![0, 1] bcast_S64x1_S64x100000_0_1 main_v66
  let main_v77 : IVec S64x100000 1 := cmpf .olt main_v42 main_v76
  let main_v78 : FVec F S64x1 .f32 := addf main_v66 main_v75
  let main_v79 : FVec F S64x100000 .f32 := broadcastInDim S64x100000 ![0, 1] bcast_S64x1_S64x100000_0_1 main_v78
  let main_v80 : IVec S64x100000 1 := cmpf .ogt main_v42 main_v79
  let main_v81 : IVec S64x100000 1 := ori main_v77 main_v80
  main_v81

def fn_part3 {F : FTy → Type} [FloatOps F] (main_v42 : FVec F S64x100000 .f32) (main_v45 : FVec F S64x100000 .f32) (main_v52 : FVec F S64x100000 .f32) (main_v54 : FVec F S64x1 .f32) : IVec S64x100000 1 :=
  let main_v55 : FVec F S64x100000 .f32 := broadcastInDim S64x100000 ![0, 1] bcast_S64x1_S64x100000_0_1 main_v54
  let main_v56 : FVec F S64x100000 .f32 := Host.divf main_v52 main_v55
  let main_v57 : FVec F S64x100000 .f32 := fn_cumsum (F := F) main_v56
  let main_cst_15 : FVec F S_ .f32 := constant S_ .f32 0x3F733333#32
  let main_v58 : FVec F S64x100000 .f32 := broadcastInDim S64x100000 ![] bcast_S_S64x100000 main_cst_15
  let main_v59 : IVec S64x100000 1 := cmpf .ogt main_v57 main_v58
  let main_v60 : IVec S64x1 1 := (extractStridedSlice S64x1 ![0, 0] · slices_S64x100000_S64x1_0_0) main_v59
  let main_c_16 : IVec S_ 1 := constantI S_ 1 0#1
  let main_v61 : IVec S64x1 1 := broadcastInDim S64x1 ![] bcast_S_S64x1 main_c_16
  let main_v62 : IVec S64x99999 1 := (extractStridedSlice S64x99999 ![0, 0] · slices_S64x100000_S64x99999_0_0) main_v59
  let main_v63 : IVec S64x100000 1 := (fun a b => concatenate S64x100000 1 [⟨S64x1, a⟩, ⟨S64x99999, b⟩] concatenates_S64x1_S64x99999_S64x100000_d1) main_v61 main_v62
  let main_cst_17 : FVec F S_ .f32 := constant S_ .f32 0x7F800000#32
  let main_v64 : FVec F S64x100000 .f32 := fn_where (F := F) main_v63 main_cst_17 main_v45
  let main_cst_18 : FVec F S_ .f32 := constant S_ .f32 0x7F800000#32
  let main_v65 : FVec F S64 .f32 := (fun x v => Host.reduce FloatOps.minimumf x v reducesTo_S64x100000_S64_d1 h_S_) main_v64 main_cst_18
  let main_v66 : FVec F S64x1 .f32 := broadcastInDim S64x1 ![0] bcast_S64_S64x1_0 main_v65
  let main_cst_19 : FVec F S_ .f32 := constant S_ .f32 0xFF800000#32
  let main_v67 : FVec F S64 .f32 := (fun x v => Host.reduce FloatOps.maximumf x v reducesTo_S64x100000_S64_d1 h_S_) main_v42 main_cst_19
  let main_v68 : FVec F S64x1 .f32 := broadcastInDim S64x1 ![0] bcast_S64_S64x1_0 main_v67
  let main_cst_20 : FVec F S_ .f32 := constant S_ .f32 0x7F800000#32
  let main_v69 : FVec F S64 .f32 := (fun x v => Host.reduce FloatOps.minimumf x v reducesTo_S64x100000_S64_d1 h_S_) main_v42 main_cst_20
  let main_v70 : FVec F S64x1 .f32 := broadcastInDim S64x1 ![0] bcast_S64_S64x1_0 main_v69
  let main_v71 : FVec F S64x1 .f32 := subf main_v68 main_v70
  let main_cst_21 : FVec F S_ .f32 := constant S_ .f32 0x3F800000#32
  fn_part4 (F := F) main_v42 main_v66 main_v71 main_cst_21

def fn_part2 {F : FTy → Type} [FloatOps F] (main_v20 : FVec F S64x100000 .f32) (main_v21 : FVec F S64x100000 .f32) (main_v35 : IVec S64x32x2 32) (main_cst_9 : FVec F S_ .f32) : IVec S64x100000 1 :=
  let main_v36 : FVec F S64x32 .f32 := broadcastInDim S64x32 ![] bcast_S_S64x32 main_cst_9
  let main_v37 : FVec F S64x100000 .f32 := (fun x i u => Host.scatterAdd scatter_S64x100000_S64x32x2_S64x32_n_01_01_2 x i u) main_v21 main_v35 main_v36
  let main_cst_10 : FVec F S_ .f32 := constant S_ .f32 0x3ECCCCCD#32
  let main_v38 : FVec F S64x100000 .f32 := broadcastInDim S64x100000 ![] bcast_S_S64x100000 main_cst_10
  let main_v39 : FVec F S64x100000 .f32 := mulf main_v38 main_v37
  let main_v40 : FVec F S64x100000 .f32 := subf main_v20 main_v39
  let main_cst_11 : FVec F S_ .f32 := constant S_ .f32 0x3F666666#32
  let main_v41 : FVec F S64x100000 .f32 := broadcastInDim S64x100000 ![] bcast_S_S64x100000 main_cst_11
  let main_v42 : FVec F S64x100000 .f32 := Host.divf main_v40 main_v41
  let main_v43 : FVec F S64x100000 .f32 := Host.negf main_v42
  let main_v44 : IVec S64x100000 32 := fn_argsort (F := F) main_v43
  let main_v45 : FVec F S64x100000 .f32 := fn_take_along_axis (F := F) main_v42 main_v44
  let main_cst_12 : FVec F S_ .f32 := constant S_ .f32 0xFF800000#32
  let main_v46 : FVec F S64 .f32 := (fun x v => Host.reduce FloatOps.maximumf x v reducesTo_S64x100000_S64_d1 h_S_) main_v45 main_cst_12
  let main_cst_13 : FVec F S_ .f32 := constant S_ .f32 0xFF800000#32
  let main_v47 : FVec F S64 .f32 := broadcastInDim S64 ![] bcast_S_S64 main_cst_13
  let main_v48 : FVec F S64 .f32 := maximumf main_v47 main_v46
  let main_v49 : FVec F S64x1 .f32 := broadcastInDim S64x1 ![0] bcast_S64_S64x1_0 main_v48
  let main_v50 : FVec F S64x100000 .f32 := broadcastInDim S64x100000 ![0, 1] bcast_S64x1_S64x100000_0_1 main_v49
  let main_v51 : FVec F S64x100000 .f32 := subf main_v45 main_v50
  let main_v52 : FVec F S64x100000 .f32 := Host.exp main_v51
  let main_cst_14 : FVec F S_ .f32 := constant S_ .f32 0x00000000#32
  let main_v53 : FVec F S64 .f32 := (fun x v => Host.reduceAdd x v reducesTo_S64x100000_S64_d1 h_S_) main_v52 main_cst_14
  let main_v54 : FVec F S64x1 .f32 := broadcastInDim S64x1 ![0] bcast_S64_S64x1_0 main_v53
  fn_part3 (F := F) main_v42 main_v45 main_v52 main_v54

def fn_part1 {F : FTy → Type} [FloatOps F] (main_arg0 : FVec F S64x100000 .f32) (main_arg3 : IVec S64x32 32) (main_v1 : IVec S64x1 32) (main_v17 : FVec F S64x100000 .f32) (main_cst_3 : FVec F S_ .f32) : IVec S64x100000 1 :=
  let main_v18 : FVec F S64x100000 .f32 := broadcastInDim S64x100000 ![] bcast_S_S64x100000 main_cst_3
  let main_v19 : FVec F S64x100000 .f32 := mulf main_v18 main_v17
  let main_v20 : FVec F S64x100000 .f32 := addf main_arg0 main_v19
  let main_cst_4 : FVec F S_ .f32 := constant S_ .f32 0x00000000#32
  let main_v21 : FVec F S64x100000 .f32 := broadcastInDim S64x100000 ![] bcast_S_S64x100000 main_cst_4
  let main_v22 : IVec S64x32 32 := broadcastInDim S64x32 ![0, 1] bcast_S64x1_S64x32_0_1 main_v1
  let main_c_5 : IVec S_ 32 := constantI S_ 32 0#32
  let main_v23 : IVec S64x32 32 := broadcastInDim S64x32 ![] bcast_S_S64x32 main_c_5
  let main_v24 : IVec S64x32 1 := cmpi .slt main_v22 main_v23
  let main_c_6 : IVec S_ 32 := constantI S_ 32 64#32
  let main_v25 : IVec S64x32 32 := broadcastInDim S64x32 ![] bcast_S_S64x32 main_c_6
  let main_v26 : IVec S64x32 32 := addi main_v22 main_v25
  let main_v27 : IVec S64x32 32 := select main_v24 main_v26 main_v22
  let main_c_7 : IVec S_ 32 := constantI S_ 32 0#32
  let main_v28 : IVec S64x32 32 := broadcastInDim S64x32 ![] bcast_S_S64x32 main_c_7
  let main_v29 : IVec S64x32 1 := cmpi .slt main_arg3 main_v28
  let main_c_8 : IVec S_ 32 := constantI S_ 32 100000#32
  let main_v30 : IVec S64x32 32 := broadcastInDim S64x32 ![] bcast_S_S64x32 main_c_8
  let main_v31 : IVec S64x32 32 := addi main_arg3 main_v30
  let main_v32 : IVec S64x32 32 := select main_v29 main_v31 main_arg3
  let main_v33 : IVec S64x32x1 32 := broadcastInDim S64x32x1 ![0, 1] bcast_S64x32_S64x32x1_0_1 main_v27
  let main_v34 : IVec S64x32x1 32 := broadcastInDim S64x32x1 ![0, 1] bcast_S64x32_S64x32x1_0_1 main_v32
  let main_v35 : IVec S64x32x2 32 := (fun a b => concatenate S64x32x2 2 [⟨S64x32x1, a⟩, ⟨S64x32x1, b⟩] concatenates_S64x32x1_S64x32x1_S64x32x2_d2) main_v33 main_v34
  let main_cst_9 : FVec F S_ .f32 := constant S_ .f32 0x3F800000#32
  fn_part2 (F := F) main_v20 main_v21 main_v35 main_cst_9

def fn {F : FTy → Type} [FloatOps F] (main_arg0 : FVec F S64x100000 .f32) (main_arg1 : FVec F S64x32 .f32) (main_arg2 : IVec S64x32 32) (main_arg3 : IVec S64x32 32) : IVec S64x100000 1 :=
  let main_v0 : IVec S64 32 := iotaInDim S64 32 0
  let main_v1 : IVec S64x1 32 := broadcastInDim S64x1 ![0] bcast_S64_S64x1_0 main_v0
  let main_cst : FVec F S_ .f32 := constant S_ .f32 0x00000000#32
  let main_v2 : FVec F S64x100000 .f32 := broadcastInDim S64x100000 ![] bcast_S_S64x100000 main_cst
  let main_c : IVec S_ 32 := constantI S_ 32 0#32
  let main_v3 : IVec S64x1 32 := broadcastInDim S64x1 ![] bcast_S_S64x1 main_c
  let main_v4 : IVec S64x1 1 := cmpi .slt main_v1 main_v3
  let main_c_0 : IVec S_ 32 := constantI S_ 32 64#32
  let main_v5 : IVec S64x1 32 := broadcastInDim S64x1 ![] bcast_S_S64x1 main_c_0
  let main_v6 : IVec S64x1 32 := addi main_v1 main_v5
  let main_v7 : IVec S64x1 32 := select main_v4 main_v6 main_v1
  let main_c_1 : IVec S_ 32 := constantI S_ 32 0#32
  let main_v8 : IVec S64x32 32 := broadcastInDim S64x32 ![] bcast_S_S64x32 main_c_1
  let main_v9 : IVec S64x32 1 := cmpi .slt main_arg2 main_v8
  let main_c_2 : IVec S_ 32 := constantI S_ 32 100000#32
  let main_v10 : IVec S64x32 32 := broadcastInDim S64x32 ![] bcast_S_S64x32 main_c_2
  let main_v11 : IVec S64x32 32 := addi main_arg2 main_v10
  let main_v12 : IVec S64x32 32 := select main_v9 main_v11 main_arg2
  let main_v13 : IVec S64x32 32 := broadcastInDim S64x32 ![0, 1] bcast_S64x1_S64x32_0_1 main_v7
  let main_v14 : IVec S64x32x1 32 := broadcastInDim S64x32x1 ![0, 1] bcast_S64x32_S64x32x1_0_1 main_v13
  let main_v15 : IVec S64x32x1 32 := broadcastInDim S64x32x1 ![0, 1] bcast_S64x32_S64x32x1_0_1 main_v12
  let main_v16 : IVec S64x32x2 32 := (fun a b => concatenate S64x32x2 2 [⟨S64x32x1, a⟩, ⟨S64x32x1, b⟩] concatenates_S64x32x1_S64x32x1_S64x32x2_d2) main_v14 main_v15
  let main_v17 : FVec F S64x100000 .f32 := (fun x i u => Host.scatter scatter_S64x100000_S64x32x2_S64x32_n_01_01_2 (fun _ b => b) x i u) main_v2 main_v16 main_arg1
  let main_cst_3 : FVec F S_ .f32 := constant S_ .f32 0x3FC00000#32
  fn_part1 (F := F) main_arg0 main_arg3 main_v1 main_v17 main_cst_3
-- ==== Pre_finite.lean ====
abbrev S64x100000 : Shape := ⟨2, ![64, 100000]⟩
abbrev S_ : Shape := ⟨0, ![]⟩

class Facts : Prop where
  bcast_S_S64x100000 : S_.BroadcastsInDim S64x100000 (![] : Fin 0 → Fin S64x100000.rank)

variable [Facts]

def fn {F : FTy → Type} [FloatOps F] (main_arg0 : FVec F S64x100000 .f32) : IVec S64x100000 1 :=
  let main_v0 : FVec F S64x100000 .f32 := Host.absf main_arg0
  let main_cst : FVec F S_ .f32 := constant S_ .f32 0x7F800000#32
  let main_v1 : FVec F S64x100000 .f32 := broadcastInDim S64x100000 ![] bcast_S_S64x100000 main_cst
  let main_v2 : IVec S64x100000 1 := cmpf .olt main_v0 main_v1
  main_v2
-- ==== Pre_named_and_finite.lean ====
abbrev S64x100000 : Shape := ⟨2, ![64, 100000]⟩
abbrev S64x32 : Shape := ⟨2, ![64, 32]⟩
abbrev S_ : Shape := ⟨0, ![]⟩

class Facts : Prop where
  bcast_S_S64x100000 : S_.BroadcastsInDim S64x100000 (![] : Fin 0 → Fin S64x100000.rank)
  bcast_S_S64x32 : S_.BroadcastsInDim S64x32 (![] : Fin 0 → Fin S64x32.rank)

variable [Facts]

def fn {F : FTy → Type} [FloatOps F] (main_arg0 : FVec F S64x100000 .f32) (main_arg1 : FVec F S64x32 .f32) (main_arg2 : IVec S64x32 32) (main_arg3 : IVec S64x32 32) : IVec S64x100000 1 × IVec S64x32 1 × IVec S64x32 1 × IVec S64x32 1 :=
  let main_v0 : FVec F S64x100000 .f32 := Host.absf main_arg0
  let main_cst : FVec F S_ .f32 := constant S_ .f32 0x7F800000#32
  let main_v1 : FVec F S64x100000 .f32 := broadcastInDim S64x100000 ![] bcast_S_S64x100000 main_cst
  let main_v2 : IVec S64x100000 1 := cmpf .olt main_v0 main_v1
  let main_v3 : FVec F S64x32 .f32 := Host.absf main_arg1
  let main_cst_0 : FVec F S_ .f32 := constant S_ .f32 0x7F800000#32
  let main_v4 : FVec F S64x32 .f32 := broadcastInDim S64x32 ![] bcast_S_S64x32 main_cst_0
  let main_v5 : IVec S64x32 1 := cmpf .olt main_v3 main_v4
  let main_c : IVec S_ 32 := constantI S_ 32 0#32
  let main_v6 : IVec S64x32 32 := broadcastInDim S64x32 ![] bcast_S_S64x32 main_c
  let main_v7 : IVec S64x32 1 := cmpi .sge main_arg2 main_v6
  let main_c_1 : IVec S_ 32 := constantI S_ 32 100000#32
  let main_v8 : IVec S64x32 32 := broadcastInDim S64x32 ![] bcast_S_S64x32 main_c_1
  let main_v9 : IVec S64x32 1 := cmpi .slt main_arg2 main_v8
  let main_v10 : IVec S64x32 1 := andi main_v7 main_v9
  let main_c_2 : IVec S_ 32 := constantI S_ 32 0#32
  let main_v11 : IVec S64x32 32 := broadcastInDim S64x32 ![] bcast_S_S64x32 main_c_2
  let main_v12 : IVec S64x32 1 := cmpi .sge main_arg3 main_v11
  let main_c_3 : IVec S_ 32 := constantI S_ 32 100000#32
  let main_v13 : IVec S64x32 32 := broadcastInDim S64x32 ![] bcast_S_S64x32 main_c_3
  let main_v14 : IVec S64x32 1 := cmpi .slt main_arg3 main_v13
  let main_v15 : IVec S64x32 1 := andi main_v12 main_v14
  (main_v2, main_v5, main_v10, main_v15)
-- ==== Pre_rows_named.lean ====
abbrev S64x32 : Shape := ⟨2, ![64, 32]⟩
abbrev S100000x768 : Shape := ⟨2, ![100000, 768]⟩
abbrev S_ : Shape := ⟨0, ![]⟩

class Facts : Prop where
  bcast_S_S64x32 : S_.BroadcastsInDim S64x32 (![] : Fin 0 → Fin S64x32.rank)

variable [Facts]

def fn {F : FTy → Type} [FloatOps F] (main_arg0 : IVec S64x32 32) (main_arg1 : FVec F S100000x768 .f32) : IVec S64x32 1 :=
  let main_c : IVec S_ 32 := constantI S_ 32 0#32
  let main_v0 : IVec S64x32 32 := broadcastInDim S64x32 ![] bcast_S_S64x32 main_c
  let main_v1 : IVec S64x32 1 := cmpi .sge main_arg0 main_v0
  let main_c_0 : IVec S_ 32 := constantI S_ 32 100000#32
  let main_v2 : IVec S64x32 32 := broadcastInDim S64x32 ![] bcast_S_S64x32 main_c_0
  let main_v3 : IVec S64x32 1 := cmpi .slt main_arg0 main_v2
  let main_v4 : IVec S64x32 1 := andi main_v1 main_v3
  main_v4
-- ==== Kernel.lean ====
abbrev S64x768 : Shape := ⟨2, ![64, 768]⟩
abbrev S2048x1x768 : Shape := ⟨3, ![2048, 1, 768]⟩
abbrev S768x768 : Shape := ⟨2, ![768, 768]⟩
abbrev S1536x256 : Shape := ⟨2, ![1536, 256]⟩
abbrev S256 : Shape := ⟨1, ![256]⟩
abbrev S256x3 : Shape := ⟨2, ![256, 3]⟩
abbrev S3 : Shape := ⟨1, ![3]⟩
abbrev S2048x768 : Shape := ⟨2, ![2048, 768]⟩
abbrev S1x256 : Shape := ⟨2, ![1, 256]⟩
abbrev S1x3 : Shape := ⟨2, ![1, 3]⟩
abbrev S64x32 : Shape := ⟨2, ![64, 32]⟩
abbrev S64x32x768 : Shape := ⟨3, ![64, 32, 768]⟩
abbrev S64x1x768 : Shape := ⟨3, ![64, 1, 768]⟩
abbrev S768x256 : Shape := ⟨2, ![768, 256]⟩
abbrev S2048x256 : Shape := ⟨2, ![2048, 256]⟩
abbrev S64x256 : Shape := ⟨2, ![64, 256]⟩
abbrev S64x32x256 : Shape := ⟨3, ![64, 32, 256]⟩
abbrev S64x1x256 : Shape := ⟨3, ![64, 1, 256]⟩
abbrev S1x1x256 : Shape := ⟨3, ![1, 1, 256]⟩
abbrev S2048x3 : Shape := ⟨2, ![2048, 3]⟩
abbrev S64x32x3 : Shape := ⟨3, ![64, 32, 3]⟩
abbrev S64x32x1 : Shape := ⟨3, ![64, 32, 1]⟩
abbrev S64 : Shape := ⟨1, ![64]⟩
abbrev S64x1 : Shape := ⟨2, ![64, 1]⟩

abbrev nBuf : Space → Nat
  | .hbm => 11
  | .vmem => 8
  | .smem => 0
  | _ => 0

abbrev bufTy : (tb : Table) → Fin (tcTables nBuf tb) → BufTy
  | .hbm, ⟨0, _⟩ => ⟨S64x768, .f32⟩
  | .hbm, ⟨1, _⟩ => ⟨S2048x1x768, .f32⟩
  | .hbm, ⟨2, _⟩ => ⟨S768x768, .f32⟩
  | .hbm, ⟨3, _⟩ => ⟨S1536x256, .f32⟩
  | .hbm, ⟨4, _⟩ => ⟨S256, .f32⟩
  | .hbm, ⟨5, _⟩ => ⟨S256x3, .f32⟩
  | .hbm, ⟨6, _⟩ => ⟨S3, .f32⟩
  | .hbm, ⟨7, _⟩ => ⟨S2048x768, .f32⟩
  | .hbm, ⟨8, _⟩ => ⟨S1x256, .f32⟩
  | .hbm, ⟨9, _⟩ => ⟨S1x3, .f32⟩
  | .hbm, ⟨10, _⟩ => ⟨S64x32, .f32⟩
  | .local _ .vmem, ⟨0, _⟩ => ⟨S64x768, .f32⟩
  | .local _ .vmem, ⟨1, _⟩ => ⟨S2048x768, .f32⟩
  | .local _ .vmem, ⟨2, _⟩ => ⟨S768x768, .f32⟩
  | .local _ .vmem, ⟨3, _⟩ => ⟨S1536x256, .f32⟩
  | .local _ .vmem, ⟨4, _⟩ => ⟨S1x256, .f32⟩
  | .local _ .vmem, ⟨5, _⟩ => ⟨S256x3, .f32⟩
  | .local _ .vmem, ⟨6, _⟩ => ⟨S1x3, .f32⟩
  | .local _ .vmem, ⟨7, _⟩ => ⟨S64x32, .f32⟩
  | _, _ => ⟨S64x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S64x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x3 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x768 : Shape := ⟨2, ![64, 768]⟩
abbrev S2048x1x768 : Shape := ⟨3, ![2048, 1, 768]⟩
abbrev S768x768 : Shape := ⟨2, ![768, 768]⟩
abbrev S1536x256 : Shape := ⟨2, ![1536, 256]⟩
abbrev S256 : Shape := ⟨1, ![256]⟩
abbrev S256x3 : Shape := ⟨2, ![256, 3]⟩
abbrev S3 : Shape := ⟨1, ![3]⟩
abbrev S_ : Shape := ⟨0, ![]⟩
abbrev S64x32x768 : Shape := ⟨3, ![64, 32, 768]⟩
abbrev S64x1x768 : Shape := ⟨3, ![64, 1, 768]⟩
abbrev S64x32x1536 : Shape := ⟨3, ![64, 32, 1536]⟩
abbrev S64x32x256 : Shape := ⟨3, ![64, 32, 256]⟩
abbrev S1x1x256 : Shape := ⟨3, ![1, 1, 256]⟩
abbrev S64x32x3 : Shape := ⟨3, ![64, 32, 3]⟩
abbrev S1x1x3 : Shape := ⟨3, ![1, 1, 3]⟩
abbrev S64x32 : Shape := ⟨2, ![64, 32]⟩
abbrev S64x32x1 : Shape := ⟨3, ![64, 32, 1]⟩
abbrev S64 : Shape := ⟨1, ![64]⟩
abbrev S64x1 : Shape := ⟨2, ![64, 1]⟩

abbrev nBuf : Space → Nat
  | .hbm => 89
  | .vmem => 0
  | .smem => 0
  | _ => 0

abbrev bufTy : (tb : Table) → Fin (tcTables nBuf tb) → BufTy
  | .hbm, ⟨0, _⟩ => ⟨S64x768, .f32⟩
  | .hbm, ⟨1, _⟩ => ⟨S2048x1x768, .f32⟩
  | .hbm, ⟨2, _⟩ => ⟨S768x768, .f32⟩
  | .hbm, ⟨3, _⟩ => ⟨S1536x256, .f32⟩
  | .hbm, ⟨4, _⟩ => ⟨S256, .f32⟩
  | .hbm, ⟨5, _⟩ => ⟨S256x3, .f32⟩
  | .hbm, ⟨6, _⟩ => ⟨S3, .f32⟩
  | .hbm, ⟨7, _⟩ => ⟨S768x768, .f32⟩
  | .hbm, ⟨8, _⟩ => ⟨S768x768, .f32⟩
  | .hbm, ⟨9, _⟩ => ⟨S_, .f32⟩
  | .hbm, ⟨10, _⟩ => ⟨S768x768, .f32⟩
  | .hbm, ⟨11, _⟩ => ⟨S768x768, .f32⟩
  | .hbm, ⟨12, _⟩ => ⟨S64x32x768, .f32⟩
  | .hbm, ⟨13, _⟩ => ⟨S64x1x768, .f32⟩
  | .hbm, ⟨14, _⟩ => ⟨S64x32x768, .f32⟩
  | .hbm, ⟨15, _⟩ => ⟨S64x32x1536, .f32⟩
  | .hbm, ⟨16, _⟩ => ⟨S64x32x256, .f32⟩
  | .hbm, ⟨17, _⟩ => ⟨S1x1x256, .f32⟩
  | .hbm, ⟨18, _⟩ => ⟨S64x32x256, .f32⟩
  | .hbm, ⟨19, _⟩ => ⟨S64x32x256, .f32⟩
  | .hbm, ⟨20, _⟩ => ⟨S_, .f32⟩
  | .hbm, ⟨21, _⟩ => ⟨S64x32x256, .f32⟩
  | .hbm, ⟨22, _⟩ => ⟨S64x32x256, .f32⟩
  | .hbm, ⟨23, _⟩ => ⟨S64x32x3, .f32⟩
  | .hbm, ⟨24, _⟩ => ⟨S1x1x3, .f32⟩
  | .hbm, ⟨25, _⟩ => ⟨S64x32x3, .f32⟩
  | .hbm, ⟨26, _⟩ => ⟨S64x32x3, .f32⟩
  | .hbm, ⟨27, _⟩ => ⟨S768x768, .f32⟩
  | .hbm, ⟨28, _⟩ => ⟨S64x32x768, .f32⟩
  | .hbm, ⟨29, _⟩ => ⟨S768x768, .f32⟩
  | .hbm, ⟨30, _⟩ => ⟨S64x32x768, .f32⟩
  | .hbm, ⟨31, _⟩ => ⟨S64x32x768, .f32⟩
  | .hbm, ⟨32, _⟩ => ⟨S_, .f32⟩
  | .hbm, ⟨33, _⟩ => ⟨S64x32, .f32⟩
  | .hbm, ⟨34, _⟩ => ⟨S64x32x768, .f32⟩
  | .hbm, ⟨35, _⟩ => ⟨S_, .f32⟩
  | .hbm, ⟨36, _⟩ => ⟨S64x32, .f32⟩
  | .hbm, ⟨37, _⟩ => ⟨S64x32x768, .f32⟩
  | .hbm, ⟨38, _⟩ => ⟨S_, .f32⟩
  | .hbm, ⟨39, _⟩ => ⟨S64x32, .f32⟩
  | .hbm, ⟨40, _⟩ => ⟨S64x32x1, .f32⟩
  | .hbm, ⟨41, _⟩ => ⟨S64x32, .f32⟩
  | .hbm, ⟨42, _⟩ => ⟨S64x32, .f32⟩
  | .hbm, ⟨43, _⟩ => ⟨S64x32x1, .f32⟩
  | .hbm, ⟨44, _⟩ => ⟨S64x32, .f32⟩
  | .hbm, ⟨45, _⟩ => ⟨S64x32, .f32⟩
  | .hbm, ⟨46, _⟩ => ⟨S64x32, .f32⟩
  | .hbm, ⟨47, _⟩ => ⟨S64x32x1, .f32⟩
  | .hbm, ⟨48, _⟩ => ⟨S64x32, .f32⟩
  | .hbm, ⟨49, _⟩ => ⟨S64x32, .f32⟩
  | .hbm, ⟨50, _⟩ => ⟨S64x32, .f32⟩
  | .hbm, ⟨51, _⟩ => ⟨S_, .f32⟩
  | .hbm, ⟨52, _⟩ => ⟨S64, .f32⟩
  | .hbm, ⟨53, _⟩ => ⟨S64x1, .f32⟩
  | .hbm, ⟨54, _⟩ => ⟨S_, .f32⟩
  | .hbm, ⟨55, _⟩ => ⟨S64x1, .f32⟩
  | .hbm, ⟨56, _⟩ => ⟨S64x1, .f32⟩
  | .hbm, ⟨57, _⟩ => ⟨S_, .i32⟩
  | .hbm, ⟨58, _⟩ => ⟨S_, .f32⟩
  | .hbm, ⟨59, _⟩ => ⟨S64, .f32⟩
  | .hbm, ⟨60, _⟩ => ⟨S64x1, .f32⟩
  | .hbm, ⟨61, _⟩ => ⟨S_, .f32⟩
  | .hbm, ⟨62, _⟩ => ⟨S64x1, .f32⟩
  | .hbm, ⟨63, _⟩ => ⟨S64x1, .f32⟩
  | .hbm, ⟨64, _⟩ => ⟨S64x32, .f32⟩
  | .hbm, ⟨65, _⟩ => ⟨S64x32, .f32⟩
  | .hbm, ⟨66, _⟩ => ⟨S64x32, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S64, .f32⟩
  | .hbm, ⟨72, _⟩ => ⟨S64x1, .f32⟩
  | .hbm, ⟨73, _⟩ => ⟨S64x1, .f32⟩
  | .hbm, ⟨74, _⟩ => ⟨S64x1, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S64x1, .f32⟩
  | .hbm, ⟨80, _⟩ => ⟨S64x1, .f32⟩
  | .hbm, ⟨81, _⟩ => ⟨S64x1, .f32⟩
  | .hbm, ⟨82, _⟩ => ⟨S64x32, .f32⟩
  | .hbm, ⟨83, _⟩ => ⟨S64x32, .f32⟩
  | .hbm, ⟨84, _⟩ => ⟨S_, .f32⟩
  | .hbm, ⟨85, _⟩ => ⟨S64x1, .f32⟩
  | .hbm, ⟨86, _⟩ => ⟨S64x1, .f32⟩
  | .hbm, ⟨87, _⟩ => ⟨S64x32, .f32⟩
  | .hbm, ⟨88, _⟩ => ⟨S64x32, .f32⟩
  | _, _ => ⟨S64x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_cst : Ref sig .tc := ⟨.hbm, 20, rfl⟩
abbrev main_call0_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_cst_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_c : Ref sig .tc := ⟨.hbm, 57, rfl⟩
abbrev main_call1_call0_cst : Ref sig .tc := ⟨.hbm, 58, rfl⟩
abbrev main_call1_call0_v0 : Ref sig .tc := ⟨.hbm, 59, rfl⟩
abbrev main_call1_call0_v1 : Ref sig .tc := ⟨.hbm, 60, rfl⟩
abbrev main_call1_call0_cst_0 : Ref sig .tc := ⟨.hbm, 61, rfl⟩
abbrev main_call1_call0_v2 : Ref sig .tc := ⟨.hbm, 62, rfl⟩
abbrev main_call1_call0_v3 : Ref sig .tc := ⟨.hbm, 63, rfl⟩
abbrev main_call1_call0_v4 : Ref sig .tc := ⟨.hbm, 64, rfl⟩
abbrev main_call1_call0_v5 : Ref sig .tc := ⟨.hbm, 65, rfl⟩
abbrev main_call1_call0_v6 : Ref sig .tc := ⟨.hbm, 66, rfl⟩
abbrev main_call1_call0_v7 : Ref sig .tc := ⟨.hbm, 67, rfl⟩
abbrev main_call1_call0_cst_1 : Ref sig .tc := ⟨.hbm, 68, rfl⟩
abbrev main_call1_call0_v8 : Ref sig .tc := ⟨.hbm, 69, rfl⟩
abbrev main_call1_call0_cst_2 : Ref sig .tc := ⟨.hbm, 70, rfl⟩
abbrev main_call1_call0_v9 : Ref sig .tc := ⟨.hbm, 71, rfl⟩
abbrev main_call1_call0_v10 : Ref sig .tc := ⟨.hbm, 72, rfl⟩
abbrev main_call1_call0_v11 : Ref sig .tc := ⟨.hbm, 73, rfl⟩
abbrev main_call1_call0_v12 : Ref sig .tc := ⟨.hbm, 74, rfl⟩
abbrev main_call1_call0_cst_3 : Ref sig .tc := ⟨.hbm, 75, rfl⟩
abbrev main_call1_call0_v13 : Ref sig .tc := ⟨.hbm, 76, rfl⟩
abbrev main_call1_call0_cst_4 : Ref sig .tc := ⟨.hbm, 77, rfl⟩
abbrev main_call1_call0_call0_v0 : Ref sig .tc := ⟨.hbm, 78, rfl⟩
abbrev main_call1_call0_call0_v1 : Ref sig .tc := ⟨.hbm, 79, rfl⟩
abbrev main_call1_v0 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_cst_5 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩

abbrev nD : Nat := 1
abbrev τ : Topo := Topo.v7x

variable {F : FTy → Type} [FloatOps F]
-- ==== Kernel2.lean ====
abbrev S64x100000 : Shape := ⟨2, ![64, 100000]⟩
abbrev S64x32 : Shape := ⟨2, ![64, 32]⟩
abbrev S8x100000 : Shape := ⟨2, ![8, 100000]⟩
abbrev S8x32 : Shape := ⟨2, ![8, 32]⟩
abbrev S1x100000 : Shape := ⟨2, ![1, 100000]⟩
abbrev S8x1 : Shape := ⟨2, ![8, 1]⟩
abbrev S8 : Shape := ⟨1, ![8]⟩

abbrev nBuf : Space → Nat
  | .hbm => 5
  | .vmem => 10
  | .smem => 0
  | _ => 0

abbrev bufTy : (tb : Table) → Fin (tcTables nBuf tb) → BufTy
  | .hbm, ⟨0, _⟩ => ⟨S64x100000, .f32⟩
  | .hbm, ⟨1, _⟩ => ⟨S64x32, .f32⟩
  | .hbm, ⟨2, _⟩ => ⟨S64x32, .i32⟩
  | .hbm, ⟨3, _⟩ => ⟨S64x32, .i32⟩
  | .hbm, ⟨4, _⟩ => ⟨S64x100000, .f32⟩
  | .local _ .vmem, ⟨0, _⟩ => ⟨S8x100000, .f32⟩
  | .local _ .vmem, ⟨1, _⟩ => ⟨S8x100000, .f32⟩
  | .local _ .vmem, ⟨2, _⟩ => ⟨S8x32, .f32⟩
  | .local _ .vmem, ⟨3, _⟩ => ⟨S8x32, .f32⟩
  | .local _ .vmem, ⟨4, _⟩ => ⟨S8x32, .i32⟩
  | .local _ .vmem, ⟨5, _⟩ => ⟨S8x32, .i32⟩
  | .local _ .vmem, ⟨6, _⟩ => ⟨S8x32, .i32⟩
  | .local _ .vmem, ⟨7, _⟩ => ⟨S8x32, .i32⟩
  | .local _ .vmem, ⟨8, _⟩ => ⟨S8x100000, .f32⟩
  | .local _ .vmem, ⟨9, _⟩ => ⟨S8x100000, .f32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v537 : BitVec 32 := Scalar.addi c0_i32 c8_i32
  let c1_i32 : BitVec 32 := 1#32
  ⟨c0_i32, v537, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x100000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S64x100000 : Shape := ⟨2, ![64, 100000]⟩
abbrev S64x32 : Shape := ⟨2, ![64, 32]⟩
abbrev S64 : Shape := ⟨1, ![64]⟩
abbrev S64x1 : Shape := ⟨2, ![64, 1]⟩
abbrev S_ : Shape := ⟨0, ![]⟩
abbrev S64x32x1 : Shape := ⟨3, ![64, 32, 1]⟩
abbrev S64x32x2 : Shape := ⟨3, ![64, 32, 2]⟩
abbrev S64x100000x1 : Shape := ⟨3, ![64, 100000, 1]⟩
abbrev S1 : Shape := ⟨1, ![1]⟩
abbrev S1x1x1 : Shape := ⟨3, ![1, 1, 1]⟩
abbrev S64x99999 : Shape := ⟨2, ![64, 99999]⟩
abbrev S64x100000x2 : Shape := ⟨3, ![64, 100000, 2]⟩

abbrev nBuf : Space → Nat
  | .hbm => 139
  | .vmem => 0
  | .smem => 0
  | _ => 0

abbrev hbmTy0_0 (i : Nat) : BufTy := match i % 128 with
  | 0 => ⟨S64x100000, .f32⟩
  | 1 => ⟨S64x32, .f32⟩
  | 2 => ⟨S64x32, .i32⟩
  | 3 => ⟨S64x32, .i32⟩
  | 4 => ⟨S64, .i32⟩
  | 5 => ⟨S64x1, .i32⟩
  | 6 => ⟨S64, .i32⟩
  | 7 => ⟨S64x1, .i32⟩
  | 8 => ⟨S_, .f32⟩
  | 9 => ⟨S64x100000, .f32⟩
  | 10 => ⟨S_, .i32⟩
  | 11 => ⟨S64x1, .i32⟩
  | 12 => ⟨S64x1, .i1⟩
  | 13 => ⟨S_, .i32⟩
  | 14 => ⟨S64x1, .i32⟩
  | 15 => ⟨S64x1, .i32⟩
  | 16 => ⟨S64x1, .i32⟩
  | 17 => ⟨S_, .i32⟩
  | 18 => ⟨S64x32, .i32⟩
  | 19 => ⟨S64x32, .i1⟩
  | 20 => ⟨S_, .i32⟩
  | 21 => ⟨S64x32, .i32⟩
  | 22 => ⟨S64x32, .i32⟩
  | 23 => ⟨S64x32, .i32⟩
  | 24 => ⟨S64x32, .i32⟩
  | 25 => ⟨S64x32x1, .i32⟩
  | 26 => ⟨S64x32x1, .i32⟩
  | 27 => ⟨S64x32x2, .i32⟩
  | 28 => ⟨S64x100000, .f32⟩
  | 29 => ⟨S_, .f32⟩
  | 30 => ⟨S64x100000, .f32⟩
  | 31 => ⟨S64x100000, .f32⟩
  | 32 => ⟨S64x100000, .f32⟩
  | 33 => ⟨S_, .f32⟩
  | 34 => ⟨S64x100000, .f32⟩
  | 35 => ⟨S64x32, .i32⟩
  | 36 => ⟨S_, .i32⟩
  | 37 => ⟨S64x32, .i32⟩
  | 38 => ⟨S64x32, .i1⟩
  | 39 => ⟨S_, .i32⟩
  | 40 => ⟨S64x32, .i32⟩
  | 41 => ⟨S64x32, .i32⟩
  | 42 => ⟨S64x32, .i32⟩
  | 43 => ⟨S_, .i32⟩
  | 44 => ⟨S64x32, .i32⟩
  | 45 => ⟨S64x32, .i1⟩
  | 46 => ⟨S_, .i32⟩
  | 47 => ⟨S64x32, .i32⟩
  | 48 => ⟨S64x32, .i32⟩
  | 49 => ⟨S64x32, .i32⟩
  | 50 => ⟨S64x32x1, .i32⟩
  | 51 => ⟨S64x32x1, .i32⟩
  | 52 => ⟨S64x32x2, .i32⟩
  | 53 => ⟨S_, .f32⟩
  | 54 => ⟨S64x32, .f32⟩
  | 55 => ⟨S64x100000, .f32⟩
  | 56 => ⟨S_, .f32⟩
  | 57 => ⟨S64x100000, .f32⟩
  | 58 => ⟨S64x100000, .f32⟩
  | 59 => ⟨S64x100000, .f32⟩
  | 60 => ⟨S_, .f32⟩
  | 61 => ⟨S64x100000, .f32⟩
  | 62 => ⟨S64x100000, .f32⟩
  | 63 => ⟨S64x100000, .f32⟩
  | 64 => ⟨S64x100000, .i32⟩
  | 65 => ⟨S64x100000, .f32⟩
  | 66 => ⟨S64x100000, .i32⟩
  | 67 => ⟨S_, .i32⟩
  | 68 => ⟨S64x100000, .i32⟩
  | 69 => ⟨S64x100000, .i1⟩
  | 70 => ⟨S_, .i32⟩
  | 71 => ⟨S64x100000, .i32⟩
  | 72 => ⟨S64x100000, .i32⟩
  | 73 => ⟨S64x100000, .i32⟩
  | 74 => ⟨S64x100000x1, .i32⟩
  | 75 => ⟨S1, .i32⟩
  | 76 => ⟨S_, .i32⟩
  | 77 => ⟨S64x100000x1, .i32⟩
  | 78 => ⟨S64x100000x1, .i1⟩
  | 79 => ⟨S1x1x1, .i32⟩
  | 80 => ⟨S64x100000x1, .i32⟩
  | 81 => ⟨S64x100000x1, .i1⟩
  | 82 => ⟨S64x100000x1, .i1⟩
  | 83 => ⟨S_, .i1⟩
  | 84 => ⟨S64x100000, .i1⟩
  | 85 => ⟨S64x100000, .f32⟩
  | 86 => ⟨S_, .f32⟩
  | 87 => ⟨S64x100000, .f32⟩
  | 88 => ⟨S64x100000, .f32⟩
  | 89 => ⟨S_, .f32⟩
  | 90 => ⟨S64, .f32⟩
  | 91 => ⟨S_, .f32⟩
  | 92 => ⟨S64, .f32⟩
  | 93 => ⟨S64, .f32⟩
  | 94 => ⟨S64x1, .f32⟩
  | 95 => ⟨S64x100000, .f32⟩
  | 96 => ⟨S64x100000, .f32⟩
  | 97 => ⟨S64x100000, .f32⟩
  | 98 => ⟨S_, .f32⟩
  | 99 => ⟨S64, .f32⟩
  | 100 => ⟨S64x1, .f32⟩
  | 101 => ⟨S64x100000, .f32⟩
  | 102 => ⟨S64x100000, .f32⟩
  | 103 => ⟨S_, .f32⟩
  | 104 => ⟨S_, .f32⟩
  | 105 => ⟨S64x100000, .f32⟩
  | 106 => ⟨S_, .f32⟩
  | 107 => ⟨S64x100000, .f32⟩
  | 108 => ⟨S64x100000, .i1⟩
  | 109 => ⟨S64x1, .i1⟩
  | 110 => ⟨S_, .i1⟩
  | 111 => ⟨S64x1, .i1⟩
  | 112 => ⟨S64x99999, .i1⟩
  | 113 => ⟨S64x100000, .i1⟩
  | 114 => ⟨S_, .f32⟩
  | 115 => ⟨S_, .f32⟩
  | 116 => ⟨S64x100000, .f32⟩
  | 117 => ⟨S64x100000, .f32⟩
  | 118 => ⟨S_, .f32⟩
  | 119 => ⟨S64x100000, .f32⟩
  | 120 => ⟨S_, .i32⟩
  | 121 => ⟨S64x1, .i32⟩
  | 122 => ⟨S64x1, .i1⟩
  | 123 => ⟨S_, .i32⟩
  | 124 => ⟨S64x1, .i32⟩
  | 125 => ⟨S64x1, .i32⟩
  | 126 => ⟨S64x1, .i32⟩
  | 127 => ⟨S_, .i32⟩
  | _ => ⟨S64x100000, .f32⟩

abbrev hbmTy0_1 (i : Nat) : BufTy := match i % 128 with
  | 0 => ⟨S64x100000, .i32⟩
  | 1 => ⟨S64x100000, .i1⟩
  | 2 => ⟨S_, .i32⟩
  | 3 => ⟨S64x100000, .i32⟩
  | 4 => ⟨S64x100000, .i32⟩
  | 5 => ⟨S64x100000, .i32⟩
  | 6 => ⟨S64x100000, .i32⟩
  | 7 => ⟨S64x100000x1, .i32⟩
  | 8 => ⟨S64x100000x1, .i32⟩
  | 9 => ⟨S64x100000x2, .i32⟩
  | 10 => ⟨S64x100000, .f32⟩
  | _ => ⟨S64x100000, .f32⟩

abbrev hbmTy (i : Nat) : BufTy := match i / 128 with
  | 0 => hbmTy0_0 i
  | 1 => hbmTy0_1 i
  | _ => ⟨S64x100000, .f32⟩

abbrev bufTy : (tb : Table) → Fin (tcTables nBuf tb) → BufTy
  | .hbm, ⟨i, _⟩ => hbmTy i
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_c_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_9 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_v0 : Ref sig .tc := ⟨.hbm, 64, rfl⟩
abbrev main_call0_v1_0 : Ref sig .tc := ⟨.hbm, 65, rfl⟩
abbrev main_v46 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_cst : Ref sig .tc := ⟨.hbm, 86, rfl⟩
abbrev main_call1_v14 : Ref sig .tc := ⟨.hbm, 87, rfl⟩
abbrev main_v47 : Ref sig .tc := ⟨.hbm, 88, rfl⟩
abbrev main_cst_12 : Ref sig .tc := ⟨.hbm, 89, rfl⟩
abbrev main_v48 : Ref sig .tc := ⟨.hbm, 90, rfl⟩
abbrev main_cst_13 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_14 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_call2_call0_cst : Ref sig .tc := ⟨.hbm, 103, rfl⟩
abbrev main_call2_call0_v0 : Ref sig .tc := ⟨.hbm, 104, rfl⟩
abbrev main_v59 : Ref sig .tc := ⟨.hbm, 105, rfl⟩
abbrev main_cst_15 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_c_16 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_17 : Ref sig .tc := ⟨.hbm, 114, rfl⟩
abbrev main_call3_v0 : Ref sig .tc := ⟨.hbm, 115, rfl⟩
abbrev main_call3_v1 : Ref sig .tc := ⟨.hbm, 116, rfl⟩
abbrev main_v66 : Ref sig .tc := ⟨.hbm, 117, rfl⟩
abbrev main_cst_18 : Ref sig .tc := ⟨.hbm, 118, rfl⟩
abbrev main_v67 : Ref sig .tc := ⟨.hbm, 119, rfl⟩
abbrev main_c_19 : Ref sig .tc := ⟨.hbm, 120, rfl⟩
abbrev main_v68 : Ref sig .tc := ⟨.hbm, 121, rfl⟩
abbrev main_v69 : Ref sig .tc := ⟨.hbm, 122, rfl⟩
abbrev main_c_20 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_c_21 : Ref sig .tc := ⟨.hbm, 127, rfl⟩
abbrev main_v73 : Ref sig .tc := ⟨.hbm, 128, rfl⟩
abbrev main_v74 : Ref sig .tc := ⟨.hbm, 129, rfl⟩
abbrev main_c_22 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩

abbrev nD : Nat := 1
abbrev τ : Topo := Topo.v7x

variable {F : FTy → Type} [FloatOps F]
-- ==== Kernel3.lean ====
abbrev S64x100000 : Shape := ⟨2, ![64, 100000]⟩
abbrev S64x32 : Shape := ⟨2, ![64, 32]⟩
abbrev S8x100000 : Shape := ⟨2, ![8, 100000]⟩
abbrev S8x32 : Shape := ⟨2, ![8, 32]⟩
abbrev S1x100000 : Shape := ⟨2, ![1, 100000]⟩
abbrev S8 : Shape := ⟨1, ![8]⟩
abbrev S8x1 : Shape := ⟨2, ![8, 1]⟩
abbrev S1x32 : Shape := ⟨2, ![1, 32]⟩

abbrev nBuf : Space → Nat
  | .hbm => 2
  | .vmem => 4
  | .smem => 0
  | _ => 0

abbrev bufTy : (tb : Table) → Fin (tcTables nBuf tb) → BufTy
  | .hbm, ⟨0, _⟩ => ⟨S64x100000, .f32⟩
  | .hbm, ⟨1, _⟩ => ⟨S64x32, .i32⟩
  | .local _ .vmem, ⟨0, _⟩ => ⟨S8x100000, .f32⟩
  | .local _ .vmem, ⟨1, _⟩ => ⟨S8x100000, .f32⟩
  | .local _ .vmem, ⟨2, _⟩ => ⟨S8x32, .i32⟩
  | .local _ .vmem, ⟨3, _⟩ => ⟨S8x32, .i32⟩
  | _, _ => ⟨S64x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
@[reducible] def k0_t2_loop : Scf.Loop 32 :=
  let c0_i32_6 : BitVec 32 := 0#32
  let c32_i32 : BitVec 32 := 32#32
  let v19 : BitVec 32 := Scalar.addi c0_i32_6 c32_i32
  let c1_i32_7 : BitVec 32 := 1#32
  ⟨c0_i32_6, v19, c1_i32_7⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference3Ideal.lean ====
abbrev S64x100000 : Shape := ⟨2, ![64, 100000]⟩
abbrev S64x32 : Shape := ⟨2, ![64, 32]⟩

abbrev nBuf : Space → Nat
  | .hbm => 4
  | .vmem => 0
  | .smem => 0
  | _ => 0

abbrev bufTy : (tb : Table) → Fin (tcTables nBuf tb) → BufTy
  | .hbm, ⟨0, _⟩ => ⟨S64x100000, .f32⟩
  | .hbm, ⟨1, _⟩ => ⟨S64x32, .f32⟩
  | .hbm, ⟨2, _⟩ => ⟨S64x32, .i32⟩
  | .hbm, ⟨3, _⟩ => ⟨S64x32, .i32⟩
  | _, _ => ⟨S64x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel4.lean ====
abbrev S64x32 : Shape := ⟨2, ![64, 32]⟩
abbrev S100000x768 : Shape := ⟨2, ![100000, 768]⟩
abbrev S2048 : Shape := ⟨1, ![2048]⟩
abbrev S100000x1x768 : Shape := ⟨3, ![100000, 1, 768]⟩
abbrev S2048x1x768 : Shape := ⟨3, ![2048, 1, 768]⟩
abbrev S1x1x768 : Shape := ⟨3, ![1, 1, 768]⟩
abbrev S1 : Shape := ⟨1, ![1]⟩

abbrev nBuf : Space → Nat
  | .hbm => 4
  | .vmem => 4
  | .smem => 1
  | _ => 0

abbrev bufTy : (tb : Table) → Fin (tcTables nBuf tb) → BufTy
  | .hbm, ⟨0, _⟩ => ⟨S64x32, .i32⟩
  | .hbm, ⟨1, _⟩ => ⟨S100000x768, .f32⟩
  | .hbm, ⟨2, _⟩ => ⟨S100000x1x768, .f32⟩
  | .hbm, ⟨3, _⟩ => ⟨S2048x1x768, .f32⟩
  | .local _ .vmem, ⟨0, _⟩ => ⟨S1x1x768, .f32⟩
  | .local _ .vmem, ⟨1, _⟩ => ⟨S1x1x768, .f32⟩
  | .local _ .vmem, ⟨2, _⟩ => ⟨S1x1x768, .f32⟩
  | .local _ .vmem, ⟨3, _⟩ => ⟨S1x1x768, .f32⟩
  | .local _ .smem, ⟨0, _⟩ => ⟨S2048, .i32⟩
  | _, _ => ⟨S64x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2048], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S2048.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S2048) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4Ideal.lean ====
abbrev S64x32 : Shape := ⟨2, ![64, 32]⟩
abbrev S100000x768 : Shape := ⟨2, ![100000, 768]⟩
abbrev S_ : Shape := ⟨0, ![]⟩
abbrev S64x32x1 : Shape := ⟨3, ![64, 32, 1]⟩
abbrev S1 : Shape := ⟨1, ![1]⟩
abbrev S1x1x1 : Shape := ⟨3, ![1, 1, 1]⟩
abbrev S64x32x768 : Shape := ⟨3, ![64, 32, 768]⟩
abbrev S2048x1x768 : Shape := ⟨3, ![2048, 1, 768]⟩

abbrev nBuf : Space → Nat
  | .hbm => 26
  | .vmem => 0
  | .smem => 0
  | _ => 0

abbrev bufTy : (tb : Table) → Fin (tcTables nBuf tb) → BufTy
  | .hbm, ⟨0, _⟩ => ⟨S64x32, .i32⟩
  | .hbm, ⟨1, _⟩ => ⟨S100000x768, .f32⟩
  | .hbm, ⟨2, _⟩ => ⟨S_, .i32⟩
  | .hbm, ⟨3, _⟩ => ⟨S64x32, .i32⟩
  | .hbm, ⟨4, _⟩ => ⟨S64x32, .i1⟩
  | .hbm, ⟨5, _⟩ => ⟨S_, .i32⟩
  | .hbm, ⟨6, _⟩ => ⟨S64x32, .i32⟩
  | .hbm, ⟨7, _⟩ => ⟨S64x32, .i32⟩
  | .hbm, ⟨8, _⟩ => ⟨S64x32, .i32⟩
  | .hbm, ⟨9, _⟩ => ⟨S64x32x1, .i32⟩
  | .hbm, ⟨10, _⟩ => ⟨S1, .i32⟩
  | .hbm, ⟨11, _⟩ => ⟨S_, .i32⟩
  | .hbm, ⟨12, _⟩ => ⟨S64x32x1, .i32⟩
  | .hbm, ⟨13, _⟩ => ⟨S64x32x1, .i1⟩
  | .hbm, ⟨14, _⟩ => ⟨S1x1x1, .i32⟩
  | .hbm, ⟨15, _⟩ => ⟨S64x32x1, .i32⟩
  | .hbm, ⟨16, _⟩ => ⟨S64x32x1, .i1⟩
  | .hbm, ⟨17, _⟩ => ⟨S64x32x1, .i1⟩
  | .hbm, ⟨18, _⟩ => ⟨S_, .i1⟩
  | .hbm, ⟨19, _⟩ => ⟨S64x32, .i1⟩
  | .hbm, ⟨20, _⟩ => ⟨S64x32x768, .f32⟩
  | .hbm, ⟨21, _⟩ => ⟨S64x32x768, .i1⟩
  | .hbm, ⟨22, _⟩ => ⟨S_, .f32⟩
  | .hbm, ⟨23, _⟩ => ⟨S64x32x768, .f32⟩
  | .hbm, ⟨24, _⟩ => ⟨S64x32x768, .f32⟩
  | .hbm, ⟨25, _⟩ => ⟨S2048x1x768, .f32⟩
  | _, _ => ⟨S64x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.FilterFrameIdeal.lean ====
/- The filter call of the idealised kernel: what its body leaves in the result's block, the body's triple, the run and the frame. The body reads
   its four blocks, narrows the threshold in a loop of eight rounds that touches no memory, and stores one block. -/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel2Ideal.Filtered

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources that the program's assertions speak of. -/
abbrev World (F : FTy → Type) [FloatOps F] := MT nD τ sig Unit (Elt F) ℕ (UR sig nD τ) ℕ

variable (m : (ℓ : Loc nD τ sig) → Buf (Elt F) ℓ) (ρ : Dev nD → PrngReg)

/-! ## What the body computes -/

/-- The scores spread over the row: column `x2 k` holds score `x1 k`, the last one that names it. -/
def biased (x1 : Vec F S8x32 .f32) (x2 : Vec F S8x32 .i32) : FVec F S8x100000 .f32 :=
  let v1 := iota .tc S1x100000 32 [1] iota_S1x100000_d1_w32
  let v3 := View.ld x2 (Rect.unit (s := S8x32) ![0, 0] S8x1.size inb_S8x32_S8x1_0_0)
  let v4 := View.ld x1 (Rect.unit (s := S8x32) ![0, 0] S8x1.size inb_S8x32_S8x1_0_0)
  let v11 := View.ld x2 (Rect.unit (s := S8x32) ![0, 1] S8x1.size inb_S8x32_S8x1_0_1)
  let v12 := View.ld x1 (Rect.unit (s := S8x32) ![0, 1] S8x1.size inb_S8x32_S8x1_0_1)
  let v19 := View.ld x2 (Rect.unit (s := S8x32) ![0, 2] S8x1.size inb_S8x32_S8x1_0_2)
  let v20 := View.ld x1 (Rect.unit (s := S8x32) ![0, 2] S8x1.size inb_S8x32_S8x1_0_2)
  let v27 := View.ld x2 (Rect.unit (s := S8x32) ![0, 3] S8x1.size inb_S8x32_S8x1_0_3)
  let v28 := View.ld x1 (Rect.unit (s := S8x32) ![0, 3] S8x1.size inb_S8x32_S8x1_0_3)
  let v35 := View.ld x2 (Rect.unit (s := S8x32) ![0, 4] S8x1.size inb_S8x32_S8x1_0_4)
  let v34 := k0_pay52 v3 v4 v11 v12 v19 v20 v27 v28
  let v36 := View.ld x1 (Rect.unit (s := S8x32) ![0, 4] S8x1.size inb_S8x32_S8x1_0_4)
  let v43 := View.ld x2 (Rect.unit (s := S8x32) ![0, 5] S8x1.size inb_S8x32_S8x1_0_5)
  let v44 := View.ld x1 (Rect.unit (s := S8x32) ![0, 5] S8x1.size inb_S8x32_S8x1_0_5)
  let v51 := View.ld x2 (Rect.unit (s := S8x32) ![0, 6] S8x1.size inb_S8x32_S8x1_0_6)
  let v52 := View.ld x1 (Rect.unit (s := S8x32) ![0, 6] S8x1.size inb_S8x32_S8x1_0_6)
  let v59 := View.ld x2 (Rect.unit (s := S8x32) ![0, 7] S8x1.size inb_S8x32_S8x1_0_7)
  let v60 := View.ld x1 (Rect.unit (s := S8x32) ![0, 7] S8x1.size inb_S8x32_S8x1_0_7)
  let v67 := View.ld x2 (Rect.unit (s := S8x32) ![0, 8] S8x1.size inb_S8x32_S8x1_0_8)
  let v68 := View.ld x1 (Rect.unit (s := S8x32) ![0, 8] S8x1.size inb_S8x32_S8x1_0_8)
  let v75 := View.ld x2 (Rect.unit (s := S8x32) ![0, 9] S8x1.size inb_S8x32_S8x1_0_9)
  let v74 := k0_pay53 v1 v34 v35 v36 v43 v44 v51 v52 v59 v60 v67 v68
  let v76 := View.ld x1 (Rect.unit (s := S8x32) ![0, 9] S8x1.size inb_S8x32_S8x1_0_9)
  let v83 := View.ld x2 (Rect.unit (s := S8x32) ![0, 10] S8x1.size inb_S8x32_S8x1_0_10)
  let v84 := View.ld x1 (Rect.unit (s := S8x32) ![0, 10] S8x1.size inb_S8x32_S8x1_0_10)
  let v91 := View.ld x2 (Rect.unit (s := S8x32) ![0, 11] S8x1.size inb_S8x32_S8x1_0_11)
  let v92 := View.ld x1 (Rect.unit (s := S8x32) ![0, 11] S8x1.size inb_S8x32_S8x1_0_11)
  let v99 := View.ld x2 (Rect.unit (s := S8x32) ![0, 12] S8x1.size inb_S8x32_S8x1_0_12)
  let v100 := View.ld x1 (Rect.unit (s := S8x32) ![0, 12] S8x1.size inb_S8x32_S8x1_0_12)
  let v107 := View.ld x2 (Rect.unit (s := S8x32) ![0, 13] S8x1.size inb_S8x32_S8x1_0_13)
  let v108 := View.ld x1 (Rect.unit (s := S8x32) ![0, 13] S8x1.size inb_S8x32_S8x1_0_13)
  let v115 := View.ld x2 (Rect.unit (s := S8x32) ![0, 14] S8x1.size inb_S8x32_S8x1_0_14)
  let v114 := k0_pay54 v1 v74 v75 v76 v83 v84 v91 v92 v99 v100 v107 v108
  let v116 := View.ld x1 (Rect.unit (s := S8x32) ![0, 14] S8x1.size inb_S8x32_S8x1_0_14)
  let v123 := View.ld x2 (Rect.unit (s := S8x32) ![0, 15] S8x1.size inb_S8x32_S8x1_0_15)
  let v124 := View.ld x1 (Rect.unit (s := S8x32) ![0, 15] S8x1.size inb_S8x32_S8x1_0_15)
  let v131 := View.ld x2 (Rect.unit (s := S8x32) ![0, 16] S8x1.size inb_S8x32_S8x1_0_16)
  let v132 := View.ld x1 (Rect.unit (s := S8x32) ![0, 16] S8x1.size inb_S8x32_S8x1_0_16)
  let v139 := View.ld x2 (Rect.unit (s := S8x32) ![0, 17] S8x1.size inb_S8x32_S8x1_0_17)
  let v140 := View.ld x1 (Rect.unit (s := S8x32) ![0, 17] S8x1.size inb_S8x32_S8x1_0_17)
  let v147 := View.ld x2 (Rect.unit (s := S8x32) ![0, 18] S8x1.size inb_S8x32_S8x1_0_18)
  let v148 := View.ld x1 (Rect.unit (s := S8x32) ![0, 18] S8x1.size inb_S8x32_S8x1_0_18)
  let v155 := View.ld x2 (Rect.unit (s := S8x32) ![0, 19] S8x1.size inb_S8x32_S8x1_0_19)
  let v154 := k0_pay55 v1 v114 v115 v116 v123 v124 v131 v132 v139 v140 v147 v148
  let v156 := View.ld x1 (Rect.unit (s := S8x32) ![0, 19] S8x1.size inb_S8x32_S8x1_0_19)
  let v163 := View.ld x2 (Rect.unit (s := S8x32) ![0, 20] S8x1.size inb_S8x32_S8x1_0_20)
  let v164 := View.ld x1 (Rect.unit (s := S8x32) ![0, 20] S8x1.size inb_S8x32_S8x1_0_20)
  let v171 := View.ld x2 (Rect.unit (s := S8x32) ![0, 21] S8x1.size inb_S8x32_S8x1_0_21)
  let v172 := View.ld x1 (Rect.unit (s := S8x32) ![0, 21] S8x1.size inb_S8x32_S8x1_0_21)
  let v179 := View.ld x2 (Rect.unit (s := S8x32) ![0, 22] S8x1.size inb_S8x32_S8x1_0_22)
  let v180 := View.ld x1 (Rect.unit (s := S8x32) ![0, 22] S8x1.size inb_S8x32_S8x1_0_22)
  let v187 := View.ld x2 (Rect.unit (s := S8x32) ![0, 23] S8x1.size inb_S8x32_S8x1_0_23)
  let v188 := View.ld x1 (Rect.unit (s := S8x32) ![0, 23] S8x1.size inb_S8x32_S8x1_0_23)
  let v195 := View.ld x2 (Rect.unit (s := S8x32) ![0, 24] S8x1.size inb_S8x32_S8x1_0_24)
  let v194 := k0_pay56 v1 v154 v155 v156 v163 v164 v171 v172 v179 v180 v187 v188
  let v196 := View.ld x1 (Rect.unit (s := S8x32) ![0, 24] S8x1.size inb_S8x32_S8x1_0_24)
  let v203 := View.ld x2 (Rect.unit (s := S8x32) ![0, 25] S8x1.size inb_S8x32_S8x1_0_25)
  let v204 := View.ld x1 (Rect.unit (s := S8x32) ![0, 25] S8x1.size inb_S8x32_S8x1_0_25)
  let v211 := View.ld x2 (Rect.unit (s := S8x32) ![0, 26] S8x1.size inb_S8x32_S8x1_0_26)
  let v212 := View.ld x1 (Rect.unit (s := S8x32) ![0, 26] S8x1.size inb_S8x32_S8x1_0_26)
  let v219 := View.ld x2 (Rect.unit (s := S8x32) ![0, 27] S8x1.size inb_S8x32_S8x1_0_27)
  let v220 := View.ld x1 (Rect.unit (s := S8x32) ![0, 27] S8x1.size inb_S8x32_S8x1_0_27)
  let v227 := View.ld x2 (Rect.unit (s := S8x32) ![0, 28] S8x1.size inb_S8x32_S8x1_0_28)
  let v228 := View.ld x1 (Rect.unit (s := S8x32) ![0, 28] S8x1.size inb_S8x32_S8x1_0_28)
  let v235 := View.ld x2 (Rect.unit (s := S8x32) ![0, 29] S8x1.size inb_S8x32_S8x1_0_29)
  let v234 := k0_pay57 v1 v194 v195 v196 v203 v204 v211 v212 v219 v220 v227 v228
  let v236 := View.ld x1 (Rect.unit (s := S8x32) ![0, 29] S8x1.size inb_S8x32_S8x1_0_29)
  let v243 := View.ld x2 (Rect.unit (s := S8x32) ![0, 30] S8x1.size inb_S8x32_S8x1_0_30)
  let v244 := View.ld x1 (Rect.unit (s := S8x32) ![0, 30] S8x1.size inb_S8x32_S8x1_0_30)
  let v251 := View.ld x2 (Rect.unit (s := S8x32) ![0, 31] S8x1.size inb_S8x32_S8x1_0_31)
  let v252 := View.ld x1 (Rect.unit (s := S8x32) ![0, 31] S8x1.size inb_S8x32_S8x1_0_31)
  k0_pay58 v1 v234 v235 v236 v243 v244 v251 v252

/-- How often each column is among the previous ones. -/
def counted (x3 : Vec F S8x32 .i32) : FVec F S8x100000 .f32 :=
  let v1 := iota .tc S1x100000 32 [1] iota_S1x100000_d1_w32
  let v260 := View.ld x3 (Rect.unit (s := S8x32) ![0, 0] S8x1.size inb_S8x32_S8x1_0_0)
  let v268 := View.ld x3 (Rect.unit (s := S8x32) ![0, 1] S8x1.size inb_S8x32_S8x1_0_1)
  let v276 := View.ld x3 (Rect.unit (s := S8x32) ![0, 2] S8x1.size inb_S8x32_S8x1_0_2)
  let v275 := k0_pay59 v1 v260 v268
  let v284 := View.ld x3 (Rect.unit (s := S8x32) ![0, 3] S8x1.size inb_S8x32_S8x1_0_3)
  let v292 := View.ld x3 (Rect.unit (s := S8x32) ![0, 4] S8x1.size inb_S8x32_S8x1_0_4)
  let v300 := View.ld x3 (Rect.unit (s := S8x32) ![0, 5] S8x1.size inb_S8x32_S8x1_0_5)
  let v308 := View.ld x3 (Rect.unit (s := S8x32) ![0, 6] S8x1.size inb_S8x32_S8x1_0_6)
  let v316 := View.ld x3 (Rect.unit (s := S8x32) ![0, 7] S8x1.size inb_S8x32_S8x1_0_7)
  let v315 := k0_pay60 v1 v275 v276 v284 v292 v300 v308
  let v324 := View.ld x3 (Rect.unit (s := S8x32) ![0, 8] S8x1.size inb_S8x32_S8x1_0_8)
  let v332 := View.ld x3 (Rect.unit (s := S8x32) ![0, 9] S8x1.size inb_S8x32_S8x1_0_9)
  let v340 := View.ld x3 (Rect.unit (s := S8x32) ![0, 10] S8x1.size inb_S8x32_S8x1_0_10)
  let v348 := View.ld x3 (Rect.unit (s := S8x32) ![0, 11] S8x1.size inb_S8x32_S8x1_0_11)
  let v356 := View.ld x3 (Rect.unit (s := S8x32) ![0, 12] S8x1.size inb_S8x32_S8x1_0_12)
  let v355 := k0_pay61 v1 v315 v316 v324 v332 v340 v348
  let v364 := View.ld x3 (Rect.unit (s := S8x32) ![0, 13] S8x1.size inb_S8x32_S8x1_0_13)
  let v372 := View.ld x3 (Rect.unit (s := S8x32) ![0, 14] S8x1.size inb_S8x32_S8x1_0_14)
  let v380 := View.ld x3 (Rect.unit (s := S8x32) ![0, 15] S8x1.size inb_S8x32_S8x1_0_15)
  let v388 := View.ld x3 (Rect.unit (s := S8x32) ![0, 16] S8x1.size inb_S8x32_S8x1_0_16)
  let v396 := View.ld x3 (Rect.unit (s := S8x32) ![0, 17] S8x1.size inb_S8x32_S8x1_0_17)
  let v395 := k0_pay62 v1 v355 v356 v364 v372 v380 v388
  let v404 := View.ld x3 (Rect.unit (s := S8x32) ![0, 18] S8x1.size inb_S8x32_S8x1_0_18)
  let v412 := View.ld x3 (Rect.unit (s := S8x32) ![0, 19] S8x1.size inb_S8x32_S8x1_0_19)
  let v420 := View.ld x3 (Rect.unit (s := S8x32) ![0, 20] S8x1.size inb_S8x32_S8x1_0_20)
  let v428 := View.ld x3 (Rect.unit (s := S8x32) ![0, 21] S8x1.size inb_S8x32_S8x1_0_21)
  let v436 := View.ld x3 (Rect.unit (s := S8x32) ![0, 22] S8x1.size inb_S8x32_S8x1_0_22)
  let v435 := k0_pay63 v1 v395 v396 v404 v412 v420 v428
  let v444 := View.ld x3 (Rect.unit (s := S8x32) ![0, 23] S8x1.size inb_S8x32_S8x1_0_23)
  let v452 := View.ld x3 (Rect.unit (s := S8x32) ![0, 24] S8x1.size inb_S8x32_S8x1_0_24)
  let v460 := View.ld x3 (Rect.unit (s := S8x32) ![0, 25] S8x1.size inb_S8x32_S8x1_0_25)
  let v468 := View.ld x3 (Rect.unit (s := S8x32) ![0, 26] S8x1.size inb_S8x32_S8x1_0_26)
  let v476 := View.ld x3 (Rect.unit (s := S8x32) ![0, 27] S8x1.size inb_S8x32_S8x1_0_27)
  let v475 := k0_pay64 v1 v435 v436 v444 v452 v460 v468
  let v484 := View.ld x3 (Rect.unit (s := S8x32) ![0, 28] S8x1.size inb_S8x32_S8x1_0_28)
  let v492 := View.ld x3 (Rect.unit (s := S8x32) ![0, 29] S8x1.size inb_S8x32_S8x1_0_29)
  let v500 := View.ld x3 (Rect.unit (s := S8x32) ![0, 30] S8x1.size inb_S8x32_S8x1_0_30)
  let v508 := View.ld x3 (Rect.unit (s := S8x32) ![0, 31] S8x1.size inb_S8x32_S8x1_0_31)
  k0_pay65 v1 v475 v476 v484 v492 v500 v508

/-- One round of the threshold search on the bracket `acc`. -/
def round (v0 : Vec F S8x100000 .f32) (v515 v517 : FVec F S8x100000 .f32) (acc : FVec F S8x1 .f32 × FVec F S8x1 .f32) :
    FVec F S8x1 .f32 × FVec F S8x1 .f32 :=
  let v523 := k0_pay1 v0 v515 v517
  let v528 := k0_pay3 v0 v515 v517
  let v532 := k0_pay4 v0 v515 v517
  let arg7 := acc.1
  let arg8 := acc.2
  let v546 := k0_pay13 arg7 arg8
  let v586 := k0_pay20 v523 v528 v532 arg7 arg8
  let v588 := k0_pay21 v523 v528 v532 arg7 arg8
  let v591 := k0_pay22 arg7 arg8
  let v628 := k0_pay28 v523 v528 v532 arg7 v546 v586 v591
  let v630 := k0_pay29 v523 v528 v532 arg7 arg8 v546 v588 v591
  let v633 := k0_pay30 arg7 v546
  let v640 := k0_pay31 v523 v528 v532 arg7 v546
  let v684 := k0_pay38 v523 v528 v532 arg7 v546 v628 v633 v640
  let v686 := k0_pay39 v523 v528 v532 arg7 arg8 v546 v630 v633 v640
  let v689 := k0_pay40 arg7 v546
  let v690 := k0_pay41 arg7 v546
  let v726 := k0_pay47 v523 v528 v532 arg7 v546 v684 v689 v690
  let v728 := k0_pay48 v523 v528 v532 arg7 arg8 v546 v686 v689 v690
  let v731 := k0_pay49 arg7 v546
  let v738 := k0_pay50 v523 v528 v532 arg7 v546
  let v739 := k0_pay51 v523 v528 v532 arg7 v546
  (k0_pay10 v0 v515 v517 arg7 v546 v726 v739, k0_pay11 v0 v515 v517 arg7 arg8 v546 v728 v731 v738)

/-- The bracket after the eight rounds. -/
def bracket (v0 : Vec F S8x100000 .f32) (v515 v517 : FVec F S8x100000 .f32) : FVec F S8x1 .f32 × FVec F S8x1 .f32 :=
  Scf.fold (n := k0_t1_loop.trips) (fun _ acc => round v0 v515 v517 acc) (k0_pay5 v0 v515 v517, k0_pay2 v0 v515 v517)

/-- The whole block of the logits or of the result. -/
abbrev whole : Rect S8x100000 := Rect.unit (s := S8x100000) ![0, 0] S8x100000.size inb_S8x100000_S8x100000_0_0

/-- The block that the body stores. -/
def filtered (x0 : Vec F S8x100000 .f32) (x1 : Vec F S8x32 .f32) (x2 x3 : Vec F S8x32 .i32) : FVec F S8x100000 .f32 :=
  k0_pay12 (View.ld x0 whole) (counted x3) (k0_pay66 (biased x1 x2))
    (bracket (View.ld x0 whole) (counted x3) (k0_pay66 (biased x1 x2))).2

/-- The result's staging buffer after the body. -/
def left (x0 : Vec F S8x100000 .f32) (x1 : Vec F S8x32 .f32) (x2 x3 : Vec F S8x32 .i32) : Vec F S8x100000 .f32 :=
  View.canon [⟨whole, filtered x0 x1 x2 x3⟩]

/-- The one store covers the buffer. -/
theorem covers (p : Vec F S8x100000 .f32) (y : S8x100000.Idx) :
    ∃ pc ∈ ([⟨whole, p⟩] : List (View.Piece (Elt F) S8x100000 .f32)), y ∈ pc.1.set :=
  View.cover_of_tiled [⟨whole, p⟩] S8x100000.size (by rfl) y

/-! ## The body's triple -/

/-- The loop's region touches no memory: it returns the next bracket. -/
theorem region_pure (i : grid0.Coords) (arg1 : Memref sig .tc .vmem S8x100000 .f32) (harg1 : arg1.IsWhole) (arg2 : Memref sig .tc .vmem S8x32 .f32) (harg2 : arg2.IsWhole)
    (arg3 : Memref sig .tc .vmem S8x32 .i32) (harg3 : arg3.IsWhole) (arg4 : Memref sig .tc .vmem S8x32 .i32) (harg4 : arg4.IsWhole) (arg5 : Memref sig .tc .vmem S8x100000 .f32) (harg5 : arg5.IsWhole)
    (v0 : Vec F S8x100000 .f32) (v515 v517 : FVec F S8x100000 .f32) :
    k0_t1_body i arg1 harg1 arg2 harg2 arg3 harg3 arg4 harg4 arg5 harg5 v0 v515 v517 = fun _ acc => .ret (round v0 v515 v517 acc) := by
  unfold k0_t1_body
  simp only [k0_part1_eq_skeleton, k0_part2_eq_skeleton, k0_part3_eq_skeleton, k0_part4_eq_skeleton]
  rfl

/-- So the loop returns the last bracket. -/
theorem loop_pure (i : grid0.Coords) (arg1 : Memref sig .tc .vmem S8x100000 .f32) (harg1 : arg1.IsWhole) (arg2 : Memref sig .tc .vmem S8x32 .f32) (harg2 : arg2.IsWhole)
    (arg3 : Memref sig .tc .vmem S8x32 .i32) (harg3 : arg3.IsWhole) (arg4 : Memref sig .tc .vmem S8x32 .i32) (harg4 : arg4.IsWhole) (arg5 : Memref sig .tc .vmem S8x100000 .f32) (harg5 : arg5.IsWhole)
    (v0 : Vec F S8x100000 .f32) (v515 v517 : FVec F S8x100000 .f32) :
    Scf.Loop.for k0_t1_loop k0_t1_ok (k0_pay5 v0 v515 v517, k0_pay2 v0 v515 v517)
      (k0_t1_body i arg1 harg1 arg2 harg2 arg3 harg3 arg4 harg4 arg5 harg5 v0 v515 v517) = .ret (bracket v0 v515 v517) := by
  rw [region_pure]
  exact Scf.for_pure _ _ _ _ _ _ (fun _ acc => round v0 v515 v517 acc) fun _ _ => rfl

set_option maxHeartbeats 4000000 in
/-- The body on whole staging buffers: the inputs stay, the result's buffer ends at `left`. -/
theorem body_run (c : Dev nD) (E : Set ℕ) (i : grid0.Coords) (arg1 : Memref sig .tc .vmem S8x100000 .f32) (harg1 : arg1.IsWhole) (arg2 : Memref sig .tc .vmem S8x32 .f32) (harg2 : arg2.IsWhole)
    (arg3 : Memref sig .tc .vmem S8x32 .i32) (harg3 : arg3.IsWhole) (arg4 : Memref sig .tc .vmem S8x32 .i32) (harg4 : arg4.IsWhole) (arg5 : Memref sig .tc .vmem S8x100000 .f32) (harg5 : arg5.IsWhole)
    (x0 : Vec F S8x100000 .f32) (x1 : Vec F S8x32 .f32) (x2 x3 : Vec F S8x32 .i32) (K : PUnit → sProp (World F)) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (left x0 x1 x2 x3)) -∗ K ⟨⟩))
      ⊢ wp frame (wpE (defs₀ (F := F)) Variants.none c none) E (cc0__mask_body i arg1 harg1 arg2 harg2 arg3 harg3 arg4 harg4 arg5 harg5) K := by
  simp only [cc0__mask_body_eq_skeleton]; unfold cc0__mask_body_skel
  simp only [loop_pure, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (covers _)

/-! ## The pipeline's proof data -/

/-- The arrays as the region finds them, each input's buffer at its block after the body, the result's at `left` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = left (iblk m c 0 t) (iblk m c 1 t) (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`. -/
def pre (c : Dev nD) (t : Fin cfg0.N) : sProp (World F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def post (c : Dev nD) (t : Fin cfg0.N) : sProp (World F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (body_run c Set.univ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row is the body at the point's buffers. -/
theorem row_is_body (t : Fin cfg0.N) :
    defs₀ (F := F) .tc cfg0.body (cfg0.bodyArgs t (cfg0.slots t)) = bodyAt0 t := by
  unfold defs₀; rw [Defs.onTc_tc]

/-- The obligation at every point. -/
theorem obligation (c : Dev nD) : BodyObligation (dats (F := F) m 0 c) (defs₀ (F := F)) Variants.none () Set.univ := fun t => by
  rw [bigSep_W0, bigSep_W0, row_is_body]
  exact triple_restated (body_at m c t) rfl .rfl fun _ => .rfl

/-! ## The run and the frame -/

set_option backward.isDefEq.respectTransparency.types false in
set_option maxHeartbeats 800000 in
/-- The run: every array as the proof data has it, every counter at zero. -/
theorem run_still : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The run without the counters. -/
theorem run : θ_run defs (onTc (τ := τ) (main (F := F))) (s₀ m ρ) (Pipeline.FramePost cfgs (dats m) 0 (V m)) :=
  (θ_run defs _ _).mono (fun _ h => h.1) (run_still m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run m ρ)) ((θ_run defs _ _).mono (fun _ h => h.2) (run_still m ρ))

end Cert.Kernel2Ideal.Filtered

end
-- ==== Proof.FilterOps.lean ====
/- Host operations read at one entry, at any sizes: the running sum along the rows of a matrix, a sort of the rows that carries a second matrix
   along, and a scatter that adds at pairs of indices. Nothing here names a program. -/
module

public import Idealize.ShloMosaic.Lib.Routing.OpsPair
public import Idealize.ShloMosaic.Lib.Routing.OpsSet
public import Idealize.ShloMosaic.Lib.Routing.Ops
public import Idealize.ShloMosaic.Lib.SortFacts
public import Idealize.ShloMosaic.Lib.ShapeFacts
public import Idealize.ShloMosaic.Lib.Pointwise
public import Mathlib.Data.EReal.Operations

@[expose] public section

noncomputable section

namespace Filter01

open Idealize.ShloMosaic
open Idealize.ShloMosaic.Routing (shape0 shape1 shape2 shape3)

/-! ## The running sum -/

/-- A left fold that adds is the sum. -/
theorem fold_add (M : Nat) (g : Fin M → EReal) (z : EReal) : (List.finRange M).foldl (fun r n => r + g n) z = z + ∑ n, g n := by
  rw [← List.foldl_map (f := g) (g := fun r e => r + e), Fin.sum_univ_def]
  generalize (List.finRange M).map g = l
  induction l generalizing z with
  | nil => simp
  | cons a l ih => rw [List.foldl_cons, ih, List.sum_cons, add_assoc]

/-- Of the `N` places of a window that ends at entry `j`, those before the row are padding and the rest are entries `0 … j`. -/
theorem sum_window (N : Nat) (f : Nat → EReal) (j : Nat) (hj : j < N) :
    ∑ n ∈ Finset.range N, (if N - 1 ≤ j + n then f (j + n - (N - 1)) else 0) = ∑ i ∈ Finset.range N, if i ≤ j then f i else 0 := by
  obtain ⟨d, rfl⟩ : ∃ d, N = d + (j + 1) := ⟨N - (j + 1), by omega⟩
  rw [Finset.sum_range_add, Finset.sum_eq_zero (fun n hn => if_neg (by have := Finset.mem_range.1 hn; omega)), zero_add]
  conv_rhs => rw [Nat.add_comm d (j + 1), Finset.sum_range_add]
  rw [Finset.sum_eq_zero (s := Finset.range d) (fun n _ => if_neg (by omega)), add_zero]
  refine Finset.sum_congr rfl fun n hn => ?_
  have := Finset.mem_range.1 hn
  rw [if_pos (by omega), if_pos (by omega)]
  congr 1
  omega

/-- The running sum along the rows of a matrix, as a window of the whole row padded low by one less: entry `j` of a row holds the sum of the
    row's entries `0 … j`. -/
theorem running {R N Nm1 : Nat} (hN : Nm1 + 1 = N) (x : (shape2 R N).Idx → EReal) (init : shape0.Idx → EReal) (hinit : init ix0 = 0)
    (h : (shape2 R N).ReduceWindows (![1, N] : Fin 2 → Nat) ![1, 1] ![0, Nm1] ![0, 0] (shape2 R N)) (hu : 0 < shape0.numel)
    (r : Fin R) (j : Fin N) :
    Host.reduceWindow (· + ·) ![1, N] ![1, 1] ![0, Nm1] ![0, 0] x init h hu (ix2 r j)
      = ∑ i : Fin N, if i.val ≤ j.val then x (ix2 r i) else 0 := by
  subst hN
  have hv : init (Shape.Idx.first hu) = 0 := (congrArg init (funext fun a => a.elim0)).trans hinit
  have hj := j.isLt
  have hr := r.isLt
  let f : Nat → EReal := fun i => if hi : i < Nm1 + 1 then x (ix2 r ⟨i, hi⟩) else 0
  unfold Host.reduceWindow
  refine (fold_add _ _ _).trans ?_
  refine (congrArg₂ (· + ·) hv (Finset.sum_congr (g := fun n : Fin (shape2 1 (Nm1 + 1)).numel =>
    if Nm1 ≤ j.val + n.val then f (j.val + n.val - Nm1) else 0) rfl fun n _ => ?_)).trans ?_
  · dsimp only
    have hw0 : ((shape2 1 (Nm1 + 1)).rowMajor.symm n 0).val = 0 := by rw [Routing.symm2]; rfl
    have hw : ((shape2 1 (Nm1 + 1)).rowMajor.symm n 1).val = n.val := by rw [Routing.symm2]; rfl
    have hn : n.val < Nm1 + 1 := (n.cast (Routing.numel2 _)).isLt
    split
    · next hin =>
      have h1 := hin 1
      change Nm1 ≤ j.val * 1 + ((shape2 1 (Nm1 + 1)).rowMajor.symm n 1).val
        ∧ j.val * 1 + ((shape2 1 (Nm1 + 1)).rowMajor.symm n 1).val - Nm1 < Nm1 + 1 at h1
      rw [hw] at h1
      rw [if_pos (by omega)]
      show _ = f (j.val + n.val - Nm1)
      simp only [f]
      rw [dif_pos (by omega)]
      refine congrArg x (funext fun a => Fin.ext ?_)
      match a with
      | ⟨0, _⟩ =>
        show r.val * 1 + ((shape2 1 (Nm1 + 1)).rowMajor.symm n 0).val - 0 = r.val
        rw [hw0]; omega
      | ⟨1, _⟩ =>
        show j.val * 1 + ((shape2 1 (Nm1 + 1)).rowMajor.symm n 1).val - Nm1 = j.val + n.val - Nm1
        rw [hw, Nat.mul_one]
    · next hin =>
      rw [if_neg fun hle => hin fun a => by
        match a with
        | ⟨0, _⟩ =>
          show 0 ≤ r.val * 1 + ((shape2 1 (Nm1 + 1)).rowMajor.symm n 0).val ∧ r.val * 1 + ((shape2 1 (Nm1 + 1)).rowMajor.symm n 0).val - 0 < R
          rw [hw0]
          omega
        | ⟨1, _⟩ =>
          show Nm1 ≤ j.val * 1 + ((shape2 1 (Nm1 + 1)).rowMajor.symm n 1).val
            ∧ j.val * 1 + ((shape2 1 (Nm1 + 1)).rowMajor.symm n 1).val - Nm1 < Nm1 + 1
          rw [hw]
          omega]
      exact hv
  show (0 : EReal) + _ = _
  rw [zero_add, Fin.sum_univ_eq_sum_range (fun n => if Nm1 ≤ j.val + n then f (j.val + n - Nm1) else 0), Routing.numel2]
  refine (sum_window (Nm1 + 1) f j.val hj).trans ?_
  rw [← Fin.sum_univ_eq_sum_range (fun i => if i ≤ j.val then f i else 0)]
  refine Finset.sum_congr rfl fun i _ => ?_
  simp only [f]
  rw [dif_pos i.isLt]

/-! ## The sort -/

/-- The running sum as the host's own operation states it. -/
theorem running_sum {R N Nm1 : Nat} (hN : Nm1 + 1 = N) (x : FVec Ideal (shape2 R N) .f32) (init : FVec Ideal shape0 .f32) (hinit : ∀ p, init p = (0 : EReal))
    (h : (shape2 R N).ReduceWindows (![1, N] : Fin 2 → Nat) ![1, 1] ![0, Nm1] ![0, 0] (shape2 R N)) (hu : 0 < shape0.numel)
    (r : Fin R) (j : Fin N) :
    Host.reduceWindowAdd (F := Ideal) (![1, N] : Fin 2 → Nat) ![1, 1] ![0, Nm1] ![0, 0] x init h hu (ix2 r j)
      = (∑ i : Fin N, if i.val ≤ j.val then x (ix2 r i) else 0 : EReal) :=
  running hN x (fun _ => init (Shape.Idx.first hu)) (hinit _) h hu r j

/-- The order in which a row's places are read by a sort along the row. -/
def order {R N : Nat} {α β : Type} (cmp : α × β → α × β → BitVec 1) (x : (shape2 R N).Idx → α) (y : (shape2 R N).Idx → β) (r : Fin R) :
    Fin N → Fin N :=
  sortedFrom fun k k' => cmp (x (ix2 r k), y (ix2 r k)) (x (ix2 r k'), y (ix2 r k')) == 1#1

theorem along_row {R N : Nat} (r : Fin R) (j k : Fin N) : (ix2 r j).along (s := shape2 R N) 1 k = ix2 r k := by
  funext a
  match a with
  | ⟨0, _⟩ => rfl
  | ⟨1, _⟩ => rfl

/-- A sort of the rows carries the second matrix along in that order. -/
theorem sorted_carried {R N : Nat} {α β : Type} (cmp : α × β → α × β → BitVec 1) (x : (shape2 R N).Idx → α) (y : (shape2 R N).Idx → β)
    (r : Fin R) (j : Fin N) : (Host.sort2 (shape2 R N) 1 cmp x y).2 (ix2 r j) = y (ix2 r (order cmp x y r j)) := by
  unfold Host.sort2
  rw [dif_pos (show 1 < (shape2 R N).rank from Nat.one_lt_two)]
  show y _ = _
  have e : ∀ k : Fin N, (ix2 r j).along (s := shape2 R N) ⟨1, Nat.one_lt_two⟩ k = ix2 r k := along_row r j
  refine (congrArg y (e _)).trans ?_
  refine congrArg y (congrArg (ix2 r) ?_)
  unfold order
  have e' : (fun k k' : Fin N => cmp (x ((ix2 r j).along (s := shape2 R N) ⟨1, Nat.one_lt_two⟩ k), y ((ix2 r j).along (s := shape2 R N) ⟨1, Nat.one_lt_two⟩ k))
      (x ((ix2 r j).along (s := shape2 R N) ⟨1, Nat.one_lt_two⟩ k'), y ((ix2 r j).along (s := shape2 R N) ⟨1, Nat.one_lt_two⟩ k')) == 1#1)
      = fun k k' => cmp (x (ix2 r k), y (ix2 r k)) (x (ix2 r k'), y (ix2 r k')) == 1#1 := by
    funext k k'
    rw [e k, e k']
  exact congrFun (congrArg sortedFrom e') j

theorem order_bijective {R N : Nat} {α β : Type} (cmp : α × β → α × β → BitVec 1) (x : (shape2 R N).Idx → α) (y : (shape2 R N).Idx → β)
    (r : Fin R) : Function.Bijective (order cmp x y r) := ⟨sortedFrom_injective _, sortedFrom_surjective _⟩

/-! ## The scatter that adds -/

/-- Adding updates at pairs of indices whose first member is the update's row: entry `(r, c)` gains the updates of row `r` whose second index is
    `c`. -/
theorem added_at {R N K : Nat} (d : ScatterDims (shape2 R N) (shape3 R K 2) (shape2 R K))
    (hiw : d.insertedWindowDims = [0, 1]) (hsd : d.scatterDimsToOperandDims = [0, 1]) (hivd : d.indexVectorDim = 2)
    (x : (shape2 R N).Idx → EReal) (idx : IVec (shape3 R K 2) 32) (upd : (shape2 R K).Idx → EReal)
    (hrow : ∀ a k, (idx (ix3 a k 0)).toInt = (a.val : Int)) (r : Fin R) (c : Fin N) :
    Ideal.hostScatterAdd d x idx upd (ix2 r c)
      = x (ix2 r c) + ∑ k : Fin K, if (idx (ix3 r k 1)).toInt = (c.val : Int) then upd (ix2 r k) else 0 := by
  show x (ix2 r c) + _ = _
  congr 1
  rw [← Finset.sum_filter]
  symm
  refine Finset.sum_bij (fun k _ => ix2 r k) (fun k hk => ?_) (fun k _ k' _ e => ?_) (fun p hp => ?_) (fun k _ => rfl)
  · refine Finset.mem_filter.2 ⟨Finset.mem_univ _, (Routing.scatter_lands2 d hiw hsd hivd idx r k r c).2 ⟨hrow r k, (Finset.mem_filter.1 hk).2⟩⟩
  · exact congrFun e 1
  · obtain ⟨a, b, rfl⟩ : ∃ a b, p = ix2 a b := ⟨p 0, p 1, eq_ix2 p⟩
    obtain ⟨h0, h1⟩ := (Routing.scatter_lands2 d hiw hsd hivd idx a b r c).1 (Finset.mem_filter.1 hp).2
    have h2 := (hrow a b).symm.trans h0
    obtain rfl : a = r := Fin.ext (by exact_mod_cast h2)
    exact ⟨b, Finset.mem_filter.2 ⟨Finset.mem_univ _, h1⟩, rfl⟩

/-! ## Reductions of the rows -/

/-- The greatest of a row, from a given start. -/
theorem host_row_max {R N : Nat} (x : FVec Ideal (shape2 R N) .f32) (init : FVec Ideal shape0 .f32) (b : EReal) (hinit : ∀ p, init p = b)
    (h : (shape2 R N).ReducesTo [1] (shape1 R)) (hu : 0 < shape0.numel) (r : Fin R) :
    Host.reduce FloatOps.maximumf x init h hu (ix1 r) = Finset.univ.fold max b fun k => x (ix2 r k) := by
  pointwise
  rw [hinit]

/-- The least of a row, from a given start. -/
theorem host_row_min {R N : Nat} (x : FVec Ideal (shape2 R N) .f32) (init : FVec Ideal shape0 .f32) (b : EReal) (hinit : ∀ p, init p = b)
    (h : (shape2 R N).ReducesTo [1] (shape1 R)) (hu : 0 < shape0.numel) (r : Fin R) :
    Host.reduce FloatOps.minimumf x init h hu (ix1 r) = Finset.univ.fold min b fun k => x (ix2 r k) := by
  pointwise
  rw [hinit]

/-- The sum of a row, from a given start. -/
theorem host_row_sum {R N : Nat} (x : FVec Ideal (shape2 R N) .f32) (init : FVec Ideal shape0 .f32) (b : EReal) (hinit : ∀ p, init p = b)
    (h : (shape2 R N).ReducesTo [1] (shape1 R)) (hu : 0 < shape0.numel) (r : Fin R) :
    Host.reduceAdd x init h hu (ix1 r) = b + ∑ k, x (ix2 r k) := by
  pointwise
  rw [hinit]

/-- The conjunction of a row of one place. -/
theorem host_row_and {R N : Nat} (x : IVec (shape3 R N 1) 1) (init : IVec shape0 1) (hinit : ∀ p, init p = 1#1)
    (h : (shape3 R N 1).ReducesTo [2] (shape2 R N)) (hu : 0 < shape0.numel) (r : Fin R) (j : Fin N) (hx : x (ix3 r j 0) = 1#1) :
    Host.reduce IntOp.andi x init h hu (ix2 r j) = 1#1 := by
  pointwise
  rw [hinit]
  have e : ∀ k : Fin 1, x (ix3 r j k) = 1#1 := fun k => by rw [Subsingleton.elim k 0]; exact hx
  simp only [e]
  rfl

/-- The kernel's greatest of a row. -/
theorem row_max {R N : Nat} (x : FVec Ideal (shape2 R N) .f32) (h : (shape2 R N).Reduces [1] (shape1 R)) (hφ : FKind.Formats FTy.f32)
    (hacc : 0xFF800000#32 = FKind.maximumf.neutral .f32 hφ) (r : Fin R) :
    multiReduction .maximumf [1] (shape1 R) x 0xFF800000#32 h hφ hacc (ix1 r) = Finset.univ.fold max ⊥ fun k => x (ix2 r k) := by
  pointwise
  rw [show Ideal.ofBits .f32 0xFF800000#32 = ⊥ by simp [Ideal.ofBits, Ideal.ieee]]

/-- The kernel's least of a row. -/
theorem row_min {R N : Nat} (x : FVec Ideal (shape2 R N) .f32) (h : (shape2 R N).Reduces [1] (shape1 R)) (hφ : FKind.Formats FTy.f32)
    (hacc : 0x7F800000#32 = FKind.minimumf.neutral .f32 hφ) (r : Fin R) :
    multiReduction .minimumf [1] (shape1 R) x 0x7F800000#32 h hφ hacc (ix1 r) = Finset.univ.fold min ⊤ fun k => x (ix2 r k) := by
  pointwise
  rw [show Ideal.ofBits .f32 0x7F800000#32 = ⊤ by simp [Ideal.ofBits, Ideal.ieee]]

/-- The kernel's sum of a row. -/
theorem row_sum {R N : Nat} (x : FVec Ideal (shape2 R N) .f32) (h : (shape2 R N).Reduces [1] (shape1 R)) (hφ : FKind.Formats FTy.f32)
    (hacc : 0x00000000#32 = FKind.add.neutral .f32 hφ) (r : Fin R) :
    multiReduction .add [1] (shape1 R) x 0x00000000#32 h hφ hacc (ix1 r) = ∑ k, x (ix2 r k) := by
  pointwise

/-! ## A column put before a matrix -/

theorem shifted {R N M : Nat} (hM : 1 + N = M) (p : IVec (shape2 R 1) 1) (q : IVec (shape2 R N) 1) (h) (r : Fin R) (j : Fin M) :
    concatenate (shape2 R M) 1 [⟨shape2 R 1, p⟩, ⟨shape2 R N, q⟩] h (ix2 r j)
      = if hj : j.val = 0 then p (ix2 r 0) else q (ix2 r ⟨j.val - 1, by have := j.isLt; omega⟩) := by
  subst hM
  pointwise
  by_cases hj : j.val = 0
  · rw [dif_pos hj, dif_pos (by omega)]
    refine congrArg p (funext fun a => Fin.ext ?_)
    match a with
    | ⟨0, _⟩ => rfl
    | ⟨1, _⟩ => exact hj
  · rw [dif_neg hj, dif_neg (by omega)]
    refine congrArg q (funext fun a => Fin.ext ?_)
    match a with
    | ⟨0, _⟩ => rfl
    | ⟨1, _⟩ => rfl

/-- Two words side by side: the first. -/
theorem pair_first {R K : Nat} (p q : IVec (shape3 R K 1) 32) (h) (r : Fin R) (k : Fin K) :
    concatenate (shape3 R K 2) 2 [⟨shape3 R K 1, p⟩, ⟨shape3 R K 1, q⟩] h (ix3 r k 0) = p (ix3 r k 0) := by
  pointwise
  refine congrArg p (funext fun a => Fin.ext ?_)
  match a with
  | ⟨0, _⟩ => rfl
  | ⟨1, _⟩ => rfl
  | ⟨2, _⟩ => rfl

/-- Two words side by side: the second. -/
theorem pair_second {R K : Nat} (p q : IVec (shape3 R K 1) 32) (h) (r : Fin R) (k : Fin K) :
    concatenate (shape3 R K 2) 2 [⟨shape3 R K 1, p⟩, ⟨shape3 R K 1, q⟩] h (ix3 r k 1) = q (ix3 r k 0) := by
  pointwise
  refine congrArg q (funext fun a => Fin.ext ?_)
  match a with
  | ⟨0, _⟩ => rfl
  | ⟨1, _⟩ => rfl
  | ⟨2, _⟩ => rfl

/-! ## The gather along the rows -/

/-- Reading each row at its own row of indices. -/
theorem taken_along {R N : Nat} {α : Type} (d : GatherDims (shape2 R N) (shape3 R N 1) (shape2 R N)) (h1 : d.offsetDims = [])
    (h2 : d.collapsedSliceDims = [1]) (h3 : d.operandBatchingDims = [0]) (h4 : d.startIndicesBatchingDims = [0]) (h5 : d.startIndexMap = [1])
    (h6 : d.indexVectorDim = 2) (x : (shape2 R N).Idx → α) (idx : IVec (shape3 R N 1) 32) (r : Fin R) (j k : Fin N)
    (hk : (idx (ix3 r j 0)).toInt = (k.val : Int)) : Host.gather d x idx (ix2 r j) = x (ix2 r k) := by
  obtain ⟨o, c, b, s, m, v, z, wf⟩ := d
  dsimp only at h1 h2 h3 h4 h5 h6
  subst h1 h2 h3 h4 h5 h6
  have hz : z 1 = 1 := GatherDims.slice_collapsed ⟨[], [1], [0], [0], [1], 2, z, wf⟩ 1 (List.mem_singleton.2 rfl)
  unfold Host.gather
  refine congrArg x (funext fun a => Fin.ext ?_)
  match a with
  | ⟨0, _⟩ =>
    show GatherDims.start _ (ix2 r j) idx 0 + GatherDims.batchCoord _ (ix2 r j) 0 + GatherDims.offCoord _ (ix2 r j) 0 = r.val
    rw [GatherDims.start_batching _ _ _ _ (List.mem_singleton.2 rfl),
      GatherDims.offCoord_eq_zero _ _ _ (fun h => ((GatherDims.mem_sKept _ _).mp h).2 (List.mem_singleton.mpr rfl)), Nat.zero_add, Nat.add_zero]
    unfold GatherDims.batchCoord
    rw [dif_pos (List.mem_singleton.2 rfl)]
    rfl
  | ⟨1, _⟩ =>
    show GatherDims.start _ (ix2 r j) idx 1 + GatherDims.batchCoord _ (ix2 r j) 1 + GatherDims.offCoord _ (ix2 r j) 1 = k.val
    rw [GatherDims.batchCoord_eq_zero _ _ _ (fun h => absurd (List.mem_singleton.1 h) (show ¬(1 : Fin 2) = 0 by decide)),
      GatherDims.offCoord_eq_zero _ _ _ (fun h => ((GatherDims.mem_sKept _ _).mp h).1 (List.mem_singleton.mpr rfl)), Nat.add_zero]
    unfold GatherDims.start
    rw [dif_pos (List.mem_singleton.2 rfl)]
    have hsi : ∀ c, GatherDims.siIdx (⟨[], [1], [0], [0], [1], 2, z, wf⟩ : GatherDims (shape2 R N) (shape3 R N 1) (shape2 R N)) (ix2 r j) c
        = ix3 r j (0 : Fin 1) := fun c => by
      funext e; refine Fin.ext ?_
      match e with
      | ⟨0, _⟩ => rfl
      | ⟨1, _⟩ => rfl
      | ⟨2, _⟩ =>
        have : ∀ y : Fin 1, y.val = 0 := fun y => by omega
        exact (this _).trans (this _).symm
    rw [hsi, hk, Int.toNat_natCast]
    show min k.val (N - z 1) = k.val
    rw [hz]
    have := k.isLt
    omega

/-! ## The scatter that puts a rearranged row back -/

/-- Putting entry `j` of row `r` at column `σ r j`, where `σ r` rearranges the columns: column `σ r j` of the result is entry `j`. -/
theorem put_back {R N K : Nat} {α : Type} (d : ScatterDims (shape2 R N) (shape3 R K 2) (shape2 R K))
    (hiw : d.insertedWindowDims = [0, 1]) (hsd : d.scatterDimsToOperandDims = [0, 1]) (hivd : d.indexVectorDim = 2)
    (x : (shape2 R N).Idx → α) (idx : IVec (shape3 R K 2) 32) (upd : (shape2 R K).Idx → α)
    (hrow : ∀ a k, (idx (ix3 a k 0)).toInt = (a.val : Int)) (σ : Fin K → Fin N) (hσ : Function.Injective σ) (r : Fin R)
    (hcol : ∀ k, (idx (ix3 r k 1)).toInt = ((σ k).val : Int)) (j : Fin K) :
    Host.scatter d (fun _ b => b) x idx upd (ix2 r (σ j)) = upd (ix2 r j) := by
  refine Routing.scatter_set_hit d x idx upd (ix2 r (σ j)) (upd (ix2 r j)) (fun p hp => ?_) (ix2 r j)
    ((Routing.scatter_lands2 d hiw hsd hivd idx r j r (σ j)).2 ⟨hrow r j, hcol j⟩)
  obtain ⟨a, b, rfl⟩ : ∃ a b, p = ix2 a b := ⟨p 0, p 1, eq_ix2 p⟩
  obtain ⟨h0, h1⟩ := (Routing.scatter_lands2 d hiw hsd hivd idx a b r (σ j)).1 hp
  have h2 := (hrow a b).symm.trans h0
  obtain rfl : a = r := Fin.ext (by exact_mod_cast h2)
  have h3 := (hcol b).symm.trans h1
  obtain rfl : b = j := hσ (Fin.ext (by exact_mod_cast h3))
  rfl

end Filter01

end
-- ==== Proof.FilterSpec.lean ====
/- The logits that the filter works on, row by row, as real numbers: the base logit, raised by the score of the column when the row names it and
   lowered by the number of times that the column is among the previous ones, over a temperature; and what carries the machine's extended reals to
   these. Nothing here names a program. -/
module

public import Idealize.ShloMosaic.Lib.ScatterToDense.Spec
public import Idealize.ShloMosaic.Lib.Routing.Shapes
public import Idealize.ShloMosaic.Lib.Pointwise
public import Mathlib.Data.EReal.Operations

@[expose] public section

noncomputable section

namespace Filter01

open Idealize.ShloMosaic
open Idealize.ShloMosaic.Routing (shape0 shape1 shape2 shape3)
open Idealize.ShloMosaic.LaneScatter (lastHit)

/-! ## The constants -/

/-- The weight of a score. -/
def weight : ℝ := 3 / 2
/-- The penalty of a previous column. -/
def penalty : ℝ := 13421773 / 33554432
/-- The temperature. -/
def warmth : ℝ := 15099494 / 16777216
/-- The mass that the filter keeps. -/
def kept : ℝ := 15938355 / 16777216
/-- The value of a dropped column. -/
def sunk : ℝ := -1000000000

theorem weight_bits : Ideal.ofBits .f32 0x3FC00000#32 = (weight : EReal) := by
  unfold weight; simp [Ideal.ofBits, Ideal.ieee, -EReal.coe_mul]; norm_num
theorem penalty_bits : Ideal.ofBits .f32 0x3ECCCCCD#32 = (penalty : EReal) := by
  unfold penalty; simp [Ideal.ofBits, Ideal.ieee, -EReal.coe_mul]; norm_num
theorem warmth_bits : Ideal.ofBits .f32 0x3F666666#32 = (warmth : EReal) := by
  unfold warmth; simp [Ideal.ofBits, Ideal.ieee, -EReal.coe_mul]; norm_num
theorem kept_bits : Ideal.ofBits .f32 0x3F733333#32 = (kept : EReal) := by
  unfold kept; simp [Ideal.ofBits, Ideal.ieee, -EReal.coe_mul]; norm_num
theorem sunk_bits : Ideal.ofBits .f32 0xCE6E6B28#32 = (sunk : EReal) := by
  unfold sunk; simp [Ideal.ofBits, Ideal.ieee, -EReal.coe_mul, -EReal.coe_neg]; norm_num
theorem zero_bits : Ideal.ofBits .f32 0x00000000#32 = 0 := by simp [Ideal.ofBits, Ideal.ieee]
theorem one_bits : Ideal.ofBits .f32 0x3F800000#32 = 1 := by
  rw [show (1 : EReal) = ((1 : ℝ) : EReal) from rfl]; simp [Ideal.ofBits, Ideal.ieee, -EReal.coe_mul]; norm_num
theorem bottom_bits : Ideal.ofBits .f32 0xFF800000#32 = ⊥ := by simp [Ideal.ofBits, Ideal.ieee]
theorem top_bits : Ideal.ofBits .f32 0x7F800000#32 = ⊤ := by simp [Ideal.ofBits, Ideal.ieee]

theorem warmth_pos : 0 < warmth := by unfold warmth; norm_num
theorem kept_pos : 0 < kept := by unfold kept; norm_num
theorem kept_lt_one : kept < 1 := by unfold kept; norm_num

/-! ## The logits -/

/-- The score of column `c`: that of the last of the row's names for it, nought when the row does not name it. -/
def scoreOf (y : Fin 32 → ℝ) (w : Fin 32 → BitVec 32) (c : ℕ) : ℝ :=
  lastHit (fun k => c = (w (Fin.ofNat 32 k)).toNat) (fun k => y (Fin.ofNat 32 k)) 0 32

/-- How often column `c` is among the first `n` of the row's previous ones. -/
def tally {α : Type} [AddZeroClass α] [One α] (w : Fin 32 → BitVec 32) (c : ℕ) : ℕ → α
  | 0 => 0
  | n + 1 => tally w c n + if c = (w (Fin.ofNat 32 n)).toNat then 1 else 0

/-- The logit of column `c`. -/
def logitOf (b : ℝ) (y : Fin 32 → ℝ) (w q : Fin 32 → BitVec 32) (c : ℕ) : ℝ :=
  (b + weight * scoreOf y w c - penalty * tally q c 32) / warmth

/-- The row's logits, from the arrays. -/
def rowLogit {R N : ℕ} (x0 : (shape2 R N).Idx → EReal) (x1 : (shape2 R 32).Idx → EReal) (x2 x3 : (shape2 R 32).Idx → BitVec 32) (r : Fin R)
    (c : Fin N) : ℝ :=
  logitOf (x0 (ix2 r c)).toReal (fun k => (x1 (ix2 r k)).toReal) (fun k => x2 (ix2 r k)) (fun k => x3 (ix2 r k)) c.val

/-- The arrays hold reals, and the names are columns. -/
structure Fine {R N : ℕ} (x0 : (shape2 R N).Idx → EReal) (x1 : (shape2 R 32).Idx → EReal) (x2 x3 : (shape2 R 32).Idx → BitVec 32) : Prop where
  base : ∀ p, x0 p = ((x0 p).toReal : EReal)
  score : ∀ p, x1 p = ((x1 p).toReal : EReal)
  name : ∀ p, (x2 p).toNat < 100000
  previous : ∀ p, (x3 p).toNat < 100000

/-! ## From the extended reals -/

/-- A function passes into the last hit. -/
theorem lastHit_map {α β : Type} (g : α → β) (hit : ℕ → Prop) [DecidablePred hit] (val : ℕ → α) (fill : α) (n : ℕ) :
    lastHit hit (fun k => g (val k)) (g fill) n = g (lastHit hit val fill n) := by
  induction n with
  | zero => rfl
  | succ n ih =>
    show (if hit n then g (val n) else lastHit hit (fun k => g (val k)) (g fill) n) = g (if hit n then val n else lastHit hit val fill n)
    rw [ih]
    split <;> rfl

theorem tally_coe (w : Fin 32 → BitVec 32) (c : ℕ) (n : ℕ) : (tally w c n : EReal) = ((tally w c n : ℝ) : EReal) := by
  induction n with
  | zero => rfl
  | succ n ih =>
    show (tally w c n : EReal) + _ = (((tally w c n : ℝ) + _ : ℝ) : EReal)
    rw [ih, EReal.coe_add]
    congr 1
    split <;> rfl

/-- The count is the sum of the hits. -/
theorem tally_eq_sum (w : Fin 32 → BitVec 32) (c : ℕ) : (tally w c 32 : EReal) = ∑ k : Fin 32, if c = (w k).toNat then 1 else 0 := by
  have h : ∀ n, (tally w c n : EReal) = ∑ k ∈ Finset.range n, if c = (w (Fin.ofNat 32 k)).toNat then 1 else 0 := fun n => by
    induction n with
    | zero => rfl
    | succ n ih => rw [Finset.sum_range_succ, ← ih]; rfl
  rw [h, ← Fin.sum_univ_eq_sum_range (fun k => if c = (w (Fin.ofNat 32 k)).toNat then (1 : EReal) else 0)]
  refine Finset.sum_congr rfl fun k _ => ?_
  rw [show Fin.ofNat 32 k.val = k from Fin.ext (Nat.mod_eq_of_lt k.isLt)]

/-- The logit as the machine's operations write it. -/
theorem logit_coe (b s n : ℝ) : Ideal.div ((b : EReal) + (weight : EReal) * (s : EReal) - (penalty : EReal) * (n : EReal)) (warmth : EReal)
    = (((b + weight * s - penalty * n) / warmth : ℝ) : EReal) := by
  rw [Ideal.div_coe warmth_pos.ne', ← EReal.coe_mul, ← EReal.coe_mul, ← EReal.coe_add, ← EReal.coe_sub, ← EReal.coe_mul, mul_one_div]

/-- A column's number as a word is a name exactly when it is the name's value. -/
theorem word_eq {c : ℕ} (hc : c < 100000) (w : BitVec 32) : BitVec.ofNat 32 c = w ↔ c = w.toNat := by
  constructor
  · rintro rfl
    rw [BitVec.toNat_ofNat]; omega
  · rintro rfl
    exact BitVec.eq_of_toNat_eq (by rw [BitVec.toNat_ofNat]; exact Nat.mod_eq_of_lt w.isLt)

/-! ## Greatest, least and sum of a row -/

variable {N : ℕ} [NeZero N]

/-- The greatest of a row. -/
def greatest (f : Fin N → ℝ) : ℝ := Finset.univ.sup' Finset.univ_nonempty f
/-- The least of a row. -/
def least (f : Fin N → ℝ) : ℝ := Finset.univ.inf' Finset.univ_nonempty f

theorem le_greatest (f : Fin N → ℝ) (k : Fin N) : f k ≤ greatest f := Finset.le_sup' f (Finset.mem_univ k)
theorem least_le (f : Fin N → ℝ) (k : Fin N) : least f ≤ f k := Finset.inf'_le f (Finset.mem_univ k)

theorem greatest_attained (f : Fin N → ℝ) : ∃ k, greatest f = f k := by
  obtain ⟨k, _, e⟩ := Finset.exists_mem_eq_sup' (Finset.univ_nonempty (α := Fin N)) f
  exact ⟨k, e⟩
theorem least_attained (f : Fin N → ℝ) : ∃ k, least f = f k := by
  obtain ⟨k, _, e⟩ := Finset.exists_mem_eq_inf' (Finset.univ_nonempty (α := Fin N)) f
  exact ⟨k, e⟩

/-- A rearrangement has the same greatest. -/
theorem greatest_comp (f : Fin N → ℝ) (σ : Fin N → Fin N) (hσ : Function.Bijective σ) : greatest (fun k => f (σ k)) = greatest f := by
  apply le_antisymm
  · exact Finset.sup'_le _ _ fun k _ => le_greatest f (σ k)
  · refine Finset.sup'_le _ _ fun k _ => ?_
    obtain ⟨j, rfl⟩ := hσ.2 k
    exact le_greatest (fun k => f (σ k)) j

theorem fold_max (g : Fin N → EReal) (f : Fin N → ℝ) (h : ∀ k, g k = (f k : EReal)) : Finset.univ.fold max ⊥ g = (greatest f : EReal) := by
  apply le_antisymm
  · rw [Finset.fold_max_le]
    exact ⟨bot_le, fun k _ => by rw [h k]; exact_mod_cast le_greatest f k⟩
  · obtain ⟨k, e⟩ := greatest_attained f
    rw [e, ← h k, Finset.le_fold_max]
    exact .inr ⟨k, Finset.mem_univ k, le_rfl⟩

theorem fold_min (g : Fin N → EReal) (f : Fin N → ℝ) (h : ∀ k, g k = (f k : EReal)) : Finset.univ.fold min ⊤ g = (least f : EReal) := by
  apply le_antisymm
  · obtain ⟨k, e⟩ := least_attained f
    rw [e, ← h k, Finset.fold_min_le]
    exact .inr ⟨k, Finset.mem_univ k, le_rfl⟩
  · rw [Finset.le_fold_min]
    exact ⟨le_top, fun k _ => by rw [h k]; exact_mod_cast least_le f k⟩

omit [NeZero N] in
theorem sum_coe (f : Fin N → ℝ) : ∑ k, (f k : EReal) = ((∑ k, f k : ℝ) : EReal) := by
  have h : ∀ s : Finset (Fin N), ∑ k ∈ s, (f k : EReal) = ((∑ k ∈ s, f k : ℝ) : EReal) := fun s => by
    induction s using Finset.cons_induction with
    | empty => rfl
    | cons a s ha ih => rw [Finset.sum_cons, Finset.sum_cons, EReal.coe_add, ih]
  exact h _

/-- The row's weights: the exponentials of the logits less the greatest. -/
def weights (x : Fin N → ℝ) (k : Fin N) : ℝ := Real.exp (x k - greatest x)

theorem weights_pos (x : Fin N → ℝ) (k : Fin N) : 0 < weights x k := Real.exp_pos _

end Filter01

end
-- ==== Proof.FilterMath.lean ====
/- The mathematics of the filter call, one row at a time and over the real numbers: the threshold that the rounds of probes narrow down
   lies within the last bracket's width above the least entry that the sorted rule keeps, so the two rules agree at every entry that is
   not in that gap. -/
module

public import Mathlib.Analysis.SpecialFunctions.Exp
public import Mathlib.Data.Finset.Lattice.Fold

@[expose] public section

noncomputable section

namespace Filter01

open Classical

/-- The weight above a threshold. -/
def mass {n : ℕ} (x p : Fin n → ℝ) (t : ℝ) : ℝ := ∑ u, if t < x u then p u else 0

/-- Probe `j` of a round on the bracket from `lo` to `hi`. -/
def probe (lo hi : ℝ) (j : ℕ) : ℝ := lo + (j : ℝ) * ((hi - lo) / 17)

/-- The bracket's lower end after a round. -/
def raise (over : ℝ → Prop) (lo hi : ℝ) : ℕ → ℝ
  | 0 => lo
  | k + 1 => max (raise over lo hi k) (if over (probe lo hi (k + 1)) then probe lo hi (k + 1) else lo)

/-- The bracket's upper end after a round. -/
def lower (over : ℝ → Prop) (lo hi : ℝ) : ℕ → ℝ
  | 0 => hi
  | k + 1 => min (lower over lo hi k) (if over (probe lo hi (k + 1)) then hi else probe lo hi (k + 1))

/-- One round of sixteen probes. -/
def narrow (over : ℝ → Prop) (b : ℝ × ℝ) : ℝ × ℝ := (raise over b.1 b.2 16, lower over b.1 b.2 16)

theorem raise_over {over : ℝ → Prop} {lo hi : ℝ} (h : over lo) : ∀ k, over (raise over lo hi k)
  | 0 => h
  | k + 1 => by
    unfold raise
    have ih := raise_over (hi := hi) h k
    rcases max_choice (raise over lo hi k) (if over (probe lo hi (k + 1)) then probe lo hi (k + 1) else lo) with e | e <;> rw [e]
    · exact ih
    · split_ifs with hp
      · exact hp
      · exact h

theorem lower_not_over {over : ℝ → Prop} {lo hi : ℝ} (h : ¬ over hi) : ∀ k, ¬ over (lower over lo hi k)
  | 0 => h
  | k + 1 => by
    unfold lower
    have ih := lower_not_over (lo := lo) h k
    rcases min_choice (lower over lo hi k) (if over (probe lo hi (k + 1)) then hi else probe lo hi (k + 1)) with e | e <;> rw [e]
    · exact ih
    · split_ifs with hp
      · exact h
      · exact hp

theorem raise_ge {over : ℝ → Prop} {lo hi : ℝ} (j : ℕ) (hj : over (probe lo hi j)) : ∀ k, j ≤ k → probe lo hi j ≤ raise over lo hi k
  | 0, h => by
    obtain rfl : j = 0 := by omega
    simp [probe, raise]
  | k + 1, h => by
    unfold raise
    rcases Nat.lt_or_ge k j with h' | h'
    · obtain rfl : j = k + 1 := by omega
      rw [if_pos hj]; exact le_max_right _ _
    · exact (raise_ge j hj k h').trans (le_max_left _ _)

theorem lower_le {over : ℝ → Prop} {lo hi : ℝ} (j : ℕ) (hj : ¬ over (probe lo hi j)) : ∀ k, 1 ≤ j → j ≤ k → lower over lo hi k ≤ probe lo hi j
  | 0, h1, h => by omega
  | k + 1, h1, h => by
    unfold lower
    rcases Nat.lt_or_ge k j with h' | h'
    · obtain rfl : j = k + 1 := by omega
      rw [if_neg hj]; exact min_le_right _ _
    · exact (min_le_left _ _).trans (lower_le j hj k h1 h')

theorem lower_le_hi {over : ℝ → Prop} {lo hi : ℝ} : ∀ k, lower over lo hi k ≤ hi
  | 0 => le_rfl
  | k + 1 => (min_le_left _ _).trans (lower_le_hi k)

/-- A round keeps the bracket around the threshold and divides its width by seventeen. -/
theorem narrow_spec {over : ℝ → Prop} {lo hi : ℝ} (hl : over lo) (hh : ¬ over hi) :
    over (narrow over (lo, hi)).1 ∧ ¬ over (narrow over (lo, hi)).2
      ∧ (narrow over (lo, hi)).2 - (narrow over (lo, hi)).1 ≤ (hi - lo) / 17 := by
  refine ⟨raise_over hl 16, lower_not_over hh 16, ?_⟩
  show lower over lo hi 16 - raise over lo hi 16 ≤ (hi - lo) / 17
  have h0 : over (probe lo hi 0) := by simpa [probe] using hl
  have h17 : ¬ over (probe lo hi 17) := by
    have : probe lo hi 17 = hi := by unfold probe; push_cast; ring
    rwa [this]
  -- the last probe with the property before the first without it
  have : ∃ j, j ≤ 16 ∧ over (probe lo hi j) ∧ ¬ over (probe lo hi (j + 1)) := by
    by_contra hcon
    push Not at hcon
    have all : ∀ j, j ≤ 17 → over (probe lo hi j) := by
      intro j
      induction j with
      | zero => intro _; exact h0
      | succ j ih => intro h; exact hcon j (by omega) (ih (by omega))
    exact h17 (all 17 le_rfl)
  obtain ⟨j, hj, ha, hb⟩ := this
  have hr := raise_ge (over := over) j ha 16 hj
  have hlw : lower over lo hi 16 ≤ probe lo hi (j + 1) := by
    rcases Nat.lt_or_ge j 16 with h' | h'
    · exact lower_le (j + 1) hb 16 (by omega) (by omega)
    · obtain rfl : j = 16 := by omega
      have : probe lo hi (16 + 1) = hi := by unfold probe; push_cast; ring
      rw [this]; exact lower_le_hi 16
  have hd : probe lo hi (j + 1) - probe lo hi j = (hi - lo) / 17 := by unfold probe; push_cast; ring
  linarith

/-- `k` rounds. -/
theorem narrow_iterate {over : ℝ → Prop} {lo hi : ℝ} (hl : over lo) (hh : ¬ over hi) (k : ℕ) :
    over ((narrow over)^[k] (lo, hi)).1 ∧ ¬ over ((narrow over)^[k] (lo, hi)).2
      ∧ ((narrow over)^[k] (lo, hi)).2 - ((narrow over)^[k] (lo, hi)).1 ≤ (hi - lo) / 17 ^ k := by
  induction k with
  | zero => exact ⟨hl, hh, by simp⟩
  | succ k ih =>
    rw [Function.iterate_succ_apply']
    obtain ⟨h1, h2, h3⟩ := ih
    obtain ⟨g1, g2, g3⟩ := narrow_spec h1 h2
    refine ⟨g1, g2, g3.trans ?_⟩
    rw [pow_succ, ← div_div]
    exact div_le_div_of_nonneg_right h3 (by norm_num)

/-- Sorted position `j` is dropped: it is not the first, and the share of the weight before it exceeds `τ`. -/
def Dropped {n : ℕ} (p : Fin n → ℝ) (σ : Fin n → Fin n) (τ : ℝ) (j : Fin n) : Prop :=
  0 < j.val ∧ τ < ∑ i, if i.val < j.val then p (σ i) / ∑ u, p u else 0

/-- The two rules agree at every entry below the least kept one or above it by more than the slack. -/
theorem agree {n : ℕ} (x p : Fin n → ℝ) (hp : ∀ u, 0 < p u) (σ : Fin n → Fin n) (hσ : Function.Bijective σ)
    (hs : ∀ i j : Fin n, i < j → x (σ j) ≤ x (σ i)) (τ : ℝ) (hτ0 : 0 < τ) (hτ1 : τ < 1) (mn mx : ℝ) (hmn : ∀ u, mn ≤ x u) (hmx : ∀ u, x u ≤ mx)
    (cut : ℝ) (hcut : ∀ j, ¬ Dropped p σ τ j → cut ≤ x (σ j)) (hat : ∃ j, ¬ Dropped p σ τ j ∧ cut = x (σ j)) (j : Fin n)
    (hclear : x (σ j) < cut ∨ cut + (mx - mn + 1) / 16 ^ 8 < x (σ j)) :
    ((narrow (fun t => τ * ∑ u, p u < mass x p t))^[8] (mn - 1, mx)).2 ≤ x (σ j) ↔ ¬ Dropped p σ τ j := by
  obtain ⟨j0, hj0, hc0⟩ := hat
  have hS : 0 < ∑ u, p u := Finset.sum_pos (fun u _ => hp u) ⟨j0, Finset.mem_univ _⟩
  -- sums over the entries are sums over the sorted positions
  have hmass : ∀ t, mass x p t = ∑ i, if t < x (σ i) then p (σ i) else 0 := fun t =>
    (Function.Bijective.sum_comp hσ fun u => if t < x u then p u else 0).symm
  have hSσ : ∑ u, p u = ∑ i, p (σ i) := (Function.Bijective.sum_comp hσ p).symm
  -- the share before a position, without the quotient
  have hdrop : ∀ i : Fin n, Dropped p σ τ i ↔ 0 < i.val ∧ τ * ∑ u, p u < ∑ k, if k.val < i.val then p (σ k) else 0 := by
    intro i
    unfold Dropped
    have : (∑ k : Fin n, if k.val < i.val then p (σ k) / ∑ u, p u else 0) = (∑ k : Fin n, if k.val < i.val then p (σ k) else 0) / ∑ u, p u := by
      rw [div_eq_mul_inv, Finset.sum_mul]; refine Finset.sum_congr rfl fun k _ => ?_
      split_ifs <;> simp [div_eq_mul_inv]
    rw [this, lt_div_iff₀ hS]
  have hpre : ∀ i k : Fin n, i ≤ k → (∑ l : Fin n, if l.val < i.val then p (σ l) else 0) ≤ ∑ l : Fin n, if l.val < k.val then p (σ l) else 0 := by
    intro i k hik
    refine Finset.sum_le_sum fun l _ => ?_
    have : i.val ≤ k.val := hik
    split_ifs with h1 h2
    · exact le_rfl
    · omega
    · exact (hp _).le
    · exact le_rfl
  -- an entry below the cut is dropped, one above it is kept
  have hbelow : ∀ i, x (σ i) < cut → Dropped p σ τ i := fun i h => by
    by_contra hk; exact absurd (hcut i hk) (not_le.mpr h)
  have habove : ∀ i, cut < x (σ i) → ¬ Dropped p σ τ i := by
    intro i h hd
    have hi : i < j0 := by
      by_contra hn
      rcases (not_lt.mp hn).lt_or_eq with h' | h'
      · have := hs j0 i h'; linarith
      · rw [← h'] at h; linarith
    rw [hdrop] at hd
    refine hj0 ((hdrop j0).mpr ⟨by have : i.val < j0.val := hi; omega, hd.2.trans_le (hpre i j0 hi.le)⟩)
  -- the last kept position among those at the cut
  obtain ⟨js, hjs, hmax⟩ : ∃ js, (¬ Dropped p σ τ js) ∧ ∀ i, ¬ Dropped p σ τ i → i ≤ js := by
    classical
    obtain ⟨js, hm, hmax⟩ := Finset.exists_max_image (Finset.univ.filter fun i => ¬ Dropped p σ τ i) id ⟨j0, by simp [hj0]⟩
    exact ⟨js, (Finset.mem_filter.mp hm).2, fun i hi => hmax i (by simp [hi])⟩
  have hcs : x (σ js) = cut := by
    refine le_antisymm ?_ (hcut js hjs)
    rcases (hmax j0 hj0).lt_or_eq with h | h
    · exact (hs _ _ h).trans_eq hc0.symm
    · rw [← h, hc0]
  -- the weight up to and with the last kept one exceeds the share, the weight before it does not
  have hupto : τ * ∑ u, p u < ∑ l : Fin n, if l.val ≤ js.val then p (σ l) else 0 := by
    rcases Nat.lt_or_ge (js.val + 1) n with h | h
    · have hd : Dropped p σ τ ⟨js.val + 1, h⟩ := by
        by_contra hk
        have : js.val + 1 ≤ js.val := hmax _ hk
        omega
      have := ((hdrop _).mp hd).2
      simpa only [Nat.lt_succ_iff] using this
    · have : (∑ l : Fin n, if l.val ≤ js.val then p (σ l) else 0) = ∑ u, p u := by
        rw [hSσ]; refine Finset.sum_congr rfl fun l _ => if_pos (by omega)
      rw [this]; nlinarith
  have hbefore : (∑ l : Fin n, if l.val < js.val then p (σ l) else 0) ≤ τ * ∑ u, p u := by
    rcases Nat.eq_zero_or_pos js.val with h | h
    · rw [Finset.sum_eq_zero fun l _ => if_neg (by omega)]; positivity
    · by_contra hn
      exact hjs ((hdrop js).mpr ⟨h, not_le.mp hn⟩)
  -- the bracket
  have hlo0 : τ * ∑ u, p u < mass x p (mn - 1) := by
    have : mass x p (mn - 1) = ∑ u, p u := Finset.sum_congr rfl fun u _ => if_pos (by have := hmn u; linarith)
    rw [this]; nlinarith
  have hhi0 : ¬ τ * ∑ u, p u < mass x p mx := by
    have : mass x p mx = 0 := Finset.sum_eq_zero fun u _ => if_neg (not_lt.mpr (hmx u))
    rw [this, not_lt]; positivity
  obtain ⟨h1, h2, h3⟩ := narrow_iterate (over := fun t => τ * ∑ u, p u < mass x p t) hlo0 hhi0 8
  generalize (narrow (fun t => τ * ∑ u, p u < mass x p t))^[8] (mn - 1, mx) = b at h1 h2 h3 ⊢
  have hge : cut ≤ b.2 := by
    by_contra hn
    refine h2 (hupto.trans_le ?_)
    rw [hmass]
    refine Finset.sum_le_sum fun l _ => ?_
    split_ifs with ha hb
    · exact le_rfl
    · exfalso; refine hb ?_
      have : x (σ js) ≤ x (σ l) := by
        rcases (show l ≤ js from ha).lt_or_eq with h | h
        · exact hs _ _ h
        · rw [h]
      have := not_le.mp hn
      linarith
    · exact (hp _).le
    · exact le_rfl
  have hlt : b.1 < cut := by
    by_contra hn
    refine absurd h1 (not_lt.mpr (le_trans ?_ hbefore))
    rw [hmass]
    refine Finset.sum_le_sum fun l _ => ?_
    split_ifs with ha hb
    · exact le_rfl
    · exfalso
      have h' : js ≤ l := not_lt.mp hb
      have : x (σ l) ≤ x (σ js) := by
        rcases h'.lt_or_eq with h | h
        · exact hs _ _ h
        · rw [h]
      have := not_lt.mp hn
      linarith
    · exact (hp _).le
    · exact le_rfl
  have hw : 0 ≤ mx - (mn - 1) := by have := hmn (σ j0); have := hmx (σ j0); linarith
  have hslack : (mx - (mn - 1)) / 17 ^ 8 ≤ (mx - mn + 1) / 16 ^ 8 := by
    rw [show mx - mn + 1 = mx - (mn - 1) by ring]
    exact div_le_div_of_nonneg_left hw (by norm_num) (by norm_num)
  rcases hclear with h | h
  · exact ⟨fun hle => by linarith, fun hk => absurd (hbelow j h) hk⟩
  · refine ⟨fun _ => habove j (lt_of_le_of_lt ?_ h), fun _ => by linarith⟩
    have : 0 ≤ (mx - mn + 1) / 16 ^ 8 := by
      rw [show mx - mn + 1 = mx - (mn - 1) by ring]; positivity
    linarith

end Filter01

end
-- ==== Proof.FilterBody.lean ====
/- What the idealised filter body stores, row by row: the spread scores, the counts, the logits and the bracket of the threshold search are the
   real-number functions of the row's own arguments. -/
module

public import proofs.«01_k».proof.Proof.FilterFrameIdeal
public import proofs.«01_k».proof.Proof.FilterOps
public import proofs.«01_k».proof.Proof.FilterSpec
public import proofs.«01_k».proof.Proof.FilterMath
public import Idealize.ShloMosaic.Lib.Pipeline.ValueKit

@[expose] public section

set_option maxRecDepth 16384

noncomputable section

namespace Cert.Kernel2Ideal.Filtered

open Cert.Kernel2Ideal Cert.Kernel2Ideal.Gen Idealize.ShloMosaic Filter01
open Idealize.ShloMosaic.LaneScatter (lastHit)

/-! ## One column of a row's names -/

theorem column_inside {k : ℕ} (hk : k < 32) : ∀ a, (![0, k] : Fin 2 → ℕ) a + S8x1.size a ≤ S8x32.size a := fun a => by
  match a with
  | ⟨0, _⟩ => show 0 + 8 ≤ 8; omega
  | ⟨1, _⟩ => show k + 1 ≤ 32; omega

/-- Column `k` of a block. -/
def column {F : FTy → Type} {e : EltTy} (x : Vec F S8x32 e) (k : ℕ) (hk : k < 32) : Vec F S8x1 e :=
  View.ld x (Rect.unit (s := S8x32) ![0, k] S8x1.size (column_inside hk))

theorem column_at {F : FTy → Type} {e : EltTy} (x : Vec F S8x32 e) (k : ℕ) (hk : k < 32) (a : Fin 8) :
    column x k hk (ix2 a (0 : Fin 1)) = x (ix2 a (Fin.ofNat 32 k)) := by
  unfold column
  refine View.ld_unit_apply_of x _ _ _ _ _ fun d => ?_
  match d with
  | ⟨0, _⟩ => show a.val = 0 + a.val; omega
  | ⟨1, _⟩ => show k % 32 = k + 0; omega

/-! ## The spread scores -/

section
variable {F : FTy → Type} [FloatOps F]

/-- One name's step of the spreading. -/
def spreadStep (w : Vec F S8x1 .i32) (y : Vec F S8x1 .f32) (prev : FVec F S8x100000 .f32) : FVec F S8x100000 .f32 :=
  select (cmpi .eq (broadcastTo S8x100000 (iota .tc S1x100000 32 [1] iota_S1x100000_d1_w32) broadcasts_S1x100000_S8x100000)
      (broadcastTo S8x100000 w broadcasts_S8x1_S8x100000))
    (broadcastTo S8x100000 (shapeCast S8x1 y shapeCasts_S8x1_S8x1) broadcasts_S8x1_S8x100000) prev

/-- The first `n` names spread. -/
def spread (x1 : Vec F S8x32 .f32) (x2 : Vec F S8x32 .i32) : (n : ℕ) → n ≤ 32 → FVec F S8x100000 .f32
  | 0, _ => broadcast S8x100000 (Scalar.ofBits .f32 0x00000000#32)
  | n + 1, hn => spreadStep (column x2 n hn) (column x1 n hn) (spread x1 x2 n (Nat.le_of_succ_le hn))

/-- One name's step of the count. -/
def countStep (w : Vec F S8x1 .i32) (prev : FVec F S8x100000 .f32) : FVec F S8x100000 .f32 :=
  addf prev (select (cmpi .eq (broadcastTo S8x100000 (iota .tc S1x100000 32 [1] iota_S1x100000_d1_w32) broadcasts_S1x100000_S8x100000)
      (broadcastTo S8x100000 w broadcasts_S8x1_S8x100000))
    (broadcast S8x100000 (Scalar.ofBits .f32 0x3F800000#32)) (broadcast S8x100000 (Scalar.ofBits .f32 0x00000000#32)))

/-- The first `n` previous columns counted. -/
def count (x3 : Vec F S8x32 .i32) : (n : ℕ) → n ≤ 32 → FVec F S8x100000 .f32
  | 0, _ => broadcast S8x100000 (Scalar.ofBits .f32 0x00000000#32)
  | n + 1, hn => countStep (column x3 n hn) (count x3 n (Nat.le_of_succ_le hn))

theorem biased_eq (x1 : Vec F S8x32 .f32) (x2 : Vec F S8x32 .i32) : biased x1 x2 = spread x1 x2 32 le_rfl := rfl

theorem counted_eq (x3 : Vec F S8x32 .i32) : counted x3 = count x3 32 le_rfl := rfl

end

theorem word_test (w : BitVec 32) (c : Fin 100000) (u v : EReal) :
    Scalar.select (IntOp.cmpi .eq (BitVec.ofNat 32 c.val) w) u v = if c.val = w.toNat then u else v := by
  by_cases e : c.val = w.toNat
  · rw [if_pos e, (word_eq c.isLt w).2 e]
    have : IntOp.cmpi .eq w w = 1#1 := by simp [IntOp.cmpi]
    rw [this]
    rfl
  · rw [if_neg e]
    have : IntOp.cmpi .eq (BitVec.ofNat 32 c.val) w = 0#1 := by
      have hn : ¬ BitVec.ofNat 32 c.val = w := fun h => e ((word_eq c.isLt w).1 h)
      show BitVec.ofBool (BitVec.ofNat 32 c.val == w) = 0#1
      rw [beq_eq_false_iff_ne.2 hn]
      rfl
    rw [this]
    rfl

theorem spreadStep_at (w : Vec Ideal S8x1 .i32) (y : Vec Ideal S8x1 .f32) (prev : FVec Ideal S8x100000 .f32) (a : Fin 8) (c : Fin 100000) :
    spreadStep w y prev (ix2 a c) = if c.val = (w (ix2 a (0 : Fin 1))).toNat then y (ix2 a (0 : Fin 1)) else prev (ix2 a c) := by
  refine Eq.trans ?_ (word_test _ c _ _)
  unfold spreadStep
  pointwise

theorem countStep_at (w : Vec Ideal S8x1 .i32) (prev : FVec Ideal S8x100000 .f32) (a : Fin 8) (c : Fin 100000) :
    countStep w prev (ix2 a c) = (prev (ix2 a c) : EReal) + if c.val = (w (ix2 a (0 : Fin 1))).toNat then 1 else 0 := by
  refine Eq.trans ?_ (congrArg (fun z : EReal => (prev (ix2 a c) : EReal) + z) (word_test _ c _ _))
  unfold countStep
  pointwise

theorem spread_at (x1 : Vec Ideal S8x32 .f32) (x2 : Vec Ideal S8x32 .i32) (a : Fin 8) (c : Fin 100000) : ∀ (n : ℕ) (hn : n ≤ 32),
    spread x1 x2 n hn (ix2 a c) = lastHit (fun k => c.val = (x2 (ix2 a (Fin.ofNat 32 k))).toNat) (fun k => (x1 (ix2 a (Fin.ofNat 32 k)) : EReal)) 0 n
  | 0, _ => zero_bits
  | n + 1, hn => by
    show spreadStep _ _ _ (ix2 a c) = if _ then _ else _
    rw [spreadStep_at, column_at, column_at, spread_at x1 x2 a c n]

theorem count_at (x3 : Vec Ideal S8x32 .i32) (a : Fin 8) (c : Fin 100000) : ∀ (n : ℕ) (hn : n ≤ 32),
    count x3 n hn (ix2 a c) = (tally (fun k => x3 (ix2 a k)) c.val n : EReal)
  | 0, _ => zero_bits
  | n + 1, hn => by
    show countStep _ _ (ix2 a c) = tally _ _ n + _
    rw [countStep_at, column_at, count_at x3 a c n]

/-! ## The logits -/

section
variable (x0 : Vec Ideal S8x100000 .f32) (x1 : Vec Ideal S8x32 .f32) (x2 x3 : Vec Ideal S8x32 .i32)
  (h : Fine (R := 8) (N := 100000) x0 x1 x2 x3)

/-- The block's logits. -/
def logits : FVec Ideal S8x100000 .f32 := k0_pay1 x0 (counted x3) (k0_pay66 (biased x1 x2))

theorem pay1_at (v n b : FVec Ideal S8x100000 .f32) (i : S8x100000.Idx) :
    k0_pay1 v n (k0_pay66 b) i = Ideal.div ((v i : EReal) + Ideal.ofBits .f32 0x3FC00000#32 * b i - Ideal.ofBits .f32 0x3ECCCCCD#32 * n i)
      (Ideal.ofBits .f32 0x3F666666#32) := rfl

include h in
theorem logits_at (a : Fin 8) (c : Fin 100000) : logits x0 x1 x2 x3 (ix2 a c) = (rowLogit (R := 8) (N := 100000) x0 x1 x2 x3 a c : EReal) := by
  unfold logits
  rw [pay1_at, biased_eq, counted_eq, spread_at, count_at, weight_bits, penalty_bits, warmth_bits, h.base (ix2 a c), tally_coe]
  have e : lastHit (fun k => c.val = (x2 (ix2 a (Fin.ofNat 32 k))).toNat) (fun k => (x1 (ix2 a (Fin.ofNat 32 k)) : EReal)) 0 32
      = ((scoreOf (fun k => (x1 (ix2 a k)).toReal) (fun k => x2 (ix2 a k)) c.val : ℝ) : EReal) := by
    rw [show (fun k => (x1 (ix2 a (Fin.ofNat 32 k)) : EReal)) = fun k => (((x1 (ix2 a (Fin.ofNat 32 k))).toReal : ℝ) : EReal) from
      funext fun k => h.score _]
    exact lastHit_map (fun z : ℝ => (z : EReal)) _ _ 0 32
  rw [e, logit_coe]
  rfl

end

end Cert.Kernel2Ideal.Filtered

end
-- ==== Proof.FilterBracket.lean ====
/- The threshold search of the idealised filter body, row by row: a round of sixteen probes on vectors is the round over the real numbers. -/
module

public import proofs.«01_k».proof.Proof.FilterBody

@[expose] public section

set_option maxRecDepth 16384

noncomputable section

namespace Cert.Kernel2Ideal.Filtered

open Cert.Kernel2Ideal Cert.Kernel2Ideal.Gen Idealize.ShloMosaic Filter01

/-! ## A round, as a recursion over its probes -/

/-- The word of the number `k + 1`. -/
def probeBits : ℕ → BitVec 32
  | 0 => 0x3F800000#32
  | 1 => 0x40000000#32
  | 2 => 0x40400000#32
  | 3 => 0x40800000#32
  | 4 => 0x40A00000#32
  | 5 => 0x40C00000#32
  | 6 => 0x40E00000#32
  | 7 => 0x41000000#32
  | 8 => 0x41100000#32
  | 9 => 0x41200000#32
  | 10 => 0x41300000#32
  | 11 => 0x41400000#32
  | 12 => 0x41500000#32
  | 13 => 0x41600000#32
  | 14 => 0x41700000#32
  | _ => 0x41800000#32

section
variable {F : FTy → Type} [FloatOps F]

/-- Probe `k + 1` of the rows' brackets. -/
def probes (lo hi : FVec F S8x1 .f32) (k : ℕ) : FVec F S8x1 .f32 :=
  addf lo (mulf (broadcast S8x1 (Scalar.ofBits .f32 (probeBits k))) (divf (subf hi lo) (broadcast S8x1 (Scalar.ofBits .f32 0x41880000#32))))

/-- The rows' weight above a threshold. -/
def weightAbove (X P : FVec F S8x100000 .f32) (t : FVec F S8x1 .f32) : FVec F S8x1 .f32 :=
  shapeCast S8x1 (multiReduction .add [1] S8
    (select (cmpf .ogt X (broadcastTo S8x100000 t broadcasts_S8x1_S8x100000)) P (broadcast S8x100000 (Scalar.ofBits .f32 0x00000000#32)))
    0x00000000#32 reduces_S8x100000_S8 (.inl rfl) rfl) shapeCasts_S8_S8x1

/-- Whether it exceeds `C`. -/
def above (X P : FVec F S8x100000 .f32) (C t : FVec F S8x1 .f32) : IVec S8x1 1 := cmpf .ogt (weightAbove X P t) C

/-- The lower ends after `k` probes. -/
def raised (X P : FVec F S8x100000 .f32) (C lo hi : FVec F S8x1 .f32) : ℕ → FVec F S8x1 .f32
  | 0 => lo
  | k + 1 => maximumf (raised X P C lo hi k) (select (above X P C (probes lo hi k)) (probes lo hi k) lo)

/-- The upper ends after `k` probes. -/
def lowered (X P : FVec F S8x100000 .f32) (C lo hi : FVec F S8x1 .f32) : ℕ → FVec F S8x1 .f32
  | 0 => hi
  | k + 1 => minimumf (lowered X P C lo hi k) (select (above X P C (probes lo hi k)) hi (probes lo hi k))

theorem round_eq (v0 : Vec F S8x100000 .f32) (n b : FVec F S8x100000 .f32) (acc : FVec F S8x1 .f32 × FVec F S8x1 .f32) :
    round v0 n b acc = (raised (k0_pay1 v0 n b) (k0_pay3 v0 n b) (k0_pay4 v0 n b) acc.1 acc.2 16,
      lowered (k0_pay1 v0 n b) (k0_pay3 v0 n b) (k0_pay4 v0 n b) acc.1 acc.2 16) := by
  simp only [raised, lowered]
  rfl

end

/-! ## Reading an operation at an index -/

section
variable {s : Shape}

theorem cmp_at (q : CmpFPredicate) (u v : FVec Ideal s .f32) (i : s.Idx) : cmpf q u v i = Ideal.cmp q (u i) (v i) := rfl
theorem select_at (q : IVec s 1) (u v : FVec Ideal s .f32) (i : s.Idx) : select q u v i = Scalar.select (q i) (u i) (v i) := rfl
theorem max_at (u v : FVec Ideal s .f32) (i : s.Idx) : maximumf u v i = (max (u i : EReal) (v i) : EReal) := rfl
theorem min_at (u v : FVec Ideal s .f32) (i : s.Idx) : minimumf u v i = (min (u i : EReal) (v i) : EReal) := rfl
theorem add_at (u v : FVec Ideal s .f32) (i : s.Idx) : addf u v i = ((u i : EReal) + v i : EReal) := rfl
theorem sub_at (u v : FVec Ideal s .f32) (i : s.Idx) : subf u v i = ((u i : EReal) - v i : EReal) := rfl
theorem mul_at (u v : FVec Ideal s .f32) (i : s.Idx) : mulf u v i = ((u i : EReal) * v i : EReal) := rfl
theorem div_at (u v : FVec Ideal s .f32) (i : s.Idx) : divf u v i = Ideal.div (u i) (v i) := rfl
theorem exp_at (u : FVec Ideal s .f32) (i : s.Idx) : exp u i = Ideal.exp (u i) := rfl
theorem const_at (b : BitVec 32) (i : s.Idx) : broadcast s (Scalar.ofBits (F := Ideal) .f32 b) i = Ideal.ofBits .f32 b := rfl

end

/-! ## Reading a round at a row -/

theorem probeBits_eq (k : ℕ) (hk : k < 16) : Ideal.ofBits .f32 (probeBits k) = (((k + 1 : ℕ) : ℝ) : EReal) := by
  have h : ∀ j : Fin 16, Ideal.ofBits .f32 (probeBits j.val) = (((j.val + 1 : ℕ) : ℝ) : EReal) := fun j => by
    fin_cases j <;> simp [probeBits, Ideal.ofBits, Ideal.ieee, -EReal.coe_mul] <;> norm_num
  exact h ⟨k, hk⟩

theorem seventeen_bits : Ideal.ofBits .f32 0x41880000#32 = ((17 : ℝ) : EReal) := by
  simp [Ideal.ofBits, Ideal.ieee, -EReal.coe_mul]; norm_num

theorem probe_coe (l h n : ℝ) : (l : EReal) + (n : EReal) * Ideal.div ((h : EReal) - (l : EReal)) ((17 : ℝ) : EReal)
    = ((l + n * ((h - l) / 17) : ℝ) : EReal) := by
  rw [← EReal.coe_sub, Ideal.div_coe (by norm_num), ← EReal.coe_mul, ← EReal.coe_mul, ← EReal.coe_add, mul_one_div]

theorem probes_at (lo hi : FVec Ideal S8x1 .f32) (a : Fin 8) (l h : ℝ) (hl : lo (ix2 a (0 : Fin 1)) = (l : EReal))
    (hh : hi (ix2 a (0 : Fin 1)) = (h : EReal)) (k : ℕ) (hk : k < 16) :
    probes lo hi k (ix2 a (0 : Fin 1)) = (probe l h (k + 1) : EReal) := by
  unfold probes
  rw [add_at, mul_at, div_at, sub_at, const_at, const_at]
  rw [hl, hh, probeBits_eq k hk, seventeen_bits]
  exact probe_coe l h _

theorem standing_row (v : FVec Ideal S8 .f32) (a : Fin 8) : shapeCast S8x1 v shapeCasts_S8_S8x1 (ix2 a (0 : Fin 1)) = v (ix1 a) := by
  pointwise

theorem lying_row {e : FTy} (v : FVec Ideal S8x1 e) (a : Fin 8) (c : Fin 100000) :
    broadcastTo S8x100000 v broadcasts_S8x1_S8x100000 (ix2 a c) = v (ix2 a (0 : Fin 1)) := by
  pointwise

theorem part_coe (x p t : ℝ) : Scalar.select (Ideal.cmp .ogt (x : EReal) (t : EReal)) (p : EReal) 0 = ((if t < x then p else 0 : ℝ) : EReal) := by
  by_cases e : t < x
  · rw [if_pos e, (Ideal.cmp_ogt_eq_one _ _).2 (EReal.coe_lt_coe_iff.2 e)]
    rfl
  · have : Ideal.cmp .ogt (x : EReal) (t : EReal) ≠ 1#1 := fun h => e (EReal.coe_lt_coe_iff.1 ((Ideal.cmp_ogt_eq_one _ _).1 h))
    rw [if_neg e]
    exact if_neg this

theorem above_at (X P : FVec Ideal S8x100000 .f32) (C t : FVec Ideal S8x1 .f32) (a : Fin 8) (x p : Fin 100000 → ℝ) (bound τ : ℝ)
    (hX : ∀ c, X (ix2 a c) = (x c : EReal)) (hP : ∀ c, P (ix2 a c) = (p c : EReal)) (hC : C (ix2 a (0 : Fin 1)) = (bound : EReal))
    (ht : t (ix2 a (0 : Fin 1)) = (τ : EReal)) : above X P C t (ix2 a (0 : Fin 1)) = 1#1 ↔ bound < mass x p τ := by
  have hs : ∀ c, select (cmpf .ogt X (broadcastTo S8x100000 t broadcasts_S8x1_S8x100000)) P
      (broadcast S8x100000 (Scalar.ofBits (F := Ideal) .f32 0x00000000#32)) (ix2 a c) = ((if τ < x c then p c else 0 : ℝ) : EReal) := fun c => by
    rw [select_at, cmp_at, const_at, lying_row, hX, hP, ht, zero_bits]
    exact part_coe _ _ _
  have e : weightAbove X P t (ix2 a (0 : Fin 1)) = (mass x p τ : EReal) := by
    unfold weightAbove
    have e := (standing_row _ a).trans ((row_sum (R := 8) (N := 100000)
      (select (cmpf .ogt X (broadcastTo S8x100000 t broadcasts_S8x1_S8x100000)) P (broadcast S8x100000 (Scalar.ofBits (F := Ideal) .f32 0x00000000#32)))
      reduces_S8x100000_S8 (.inl rfl) rfl a).trans
    ((Finset.sum_congr rfl fun c _ => hs c).trans (sum_coe fun c => if τ < x c then p c else 0)))
    exact e
  unfold above
  rw [cmp_at, e, hC]
  exact (Ideal.cmp_ogt_eq_one _ _).trans EReal.coe_lt_coe_iff

open Classical in
theorem pick_coe (b : BitVec 1) (over : Prop) (hb : b = 1#1 ↔ over) (u v : ℝ) :
    Scalar.select b (u : EReal) (v : EReal) = ((if over then u else v : ℝ) : EReal) := by
  by_cases h : over
  · rw [if_pos h, hb.2 h]; rfl
  · rw [if_neg h]; exact if_neg fun e => h (hb.1 e)

theorem max_coe (u v : ℝ) : max (u : EReal) (v : EReal) = ((max u v : ℝ) : EReal) := (EReal.coe_strictMono.monotone.map_max).symm
theorem min_coe (u v : ℝ) : min (u : EReal) (v : EReal) = ((min u v : ℝ) : EReal) := (EReal.coe_strictMono.monotone.map_min).symm

section
variable (X P : FVec Ideal S8x100000 .f32) (C lo hi : FVec Ideal S8x1 .f32) (a : Fin 8) (x p : Fin 100000 → ℝ) (bound l h : ℝ)
  (hX : ∀ c, X (ix2 a c) = (x c : EReal)) (hP : ∀ c, P (ix2 a c) = (p c : EReal)) (hC : C (ix2 a (0 : Fin 1)) = (bound : EReal))
  (hl : lo (ix2 a (0 : Fin 1)) = (l : EReal)) (hh : hi (ix2 a (0 : Fin 1)) = (h : EReal))

include hX hP hC hl hh in
theorem raised_at : ∀ k, k ≤ 16 → raised X P C lo hi k (ix2 a (0 : Fin 1)) = (raise (fun t => bound < mass x p t) l h k : EReal)
  | 0, _ => hl
  | k + 1, hk => by
    have hp := probes_at lo hi a l h hl hh k hk
    have ha := above_at X P C (probes lo hi k) a x p bound _ hX hP hC hp
    unfold raised
    rw [max_at, select_at]
    rw [raised_at k (Nat.le_of_succ_le hk), hp, hl, pick_coe _ _ ha, max_coe]
    rfl

include hX hP hC hl hh in
theorem lowered_at : ∀ k, k ≤ 16 → lowered X P C lo hi k (ix2 a (0 : Fin 1)) = (lower (fun t => bound < mass x p t) l h k : EReal)
  | 0, _ => hh
  | k + 1, hk => by
    have hp := probes_at lo hi a l h hl hh k hk
    have ha := above_at X P C (probes lo hi k) a x p bound _ hX hP hC hp
    unfold lowered
    rw [min_at, select_at]
    rw [lowered_at k (Nat.le_of_succ_le hk), hp, hh, pick_coe _ _ ha, min_coe]
    rfl

end

/-! ## The body's block -/

theorem greatest_at (v0 : Vec Ideal S8x100000 .f32) (n b : FVec Ideal S8x100000 .f32) (a : Fin 8) (x : Fin 100000 → ℝ)
    (hX : ∀ c, k0_pay1 v0 n b (ix2 a c) = (x c : EReal)) : k0_pay2 v0 n b (ix2 a (0 : Fin 1)) = (greatest x : EReal) := by
  unfold k0_pay2
  have e := (standing_row _ a).trans ((row_max (R := 8) (N := 100000) (k0_pay1 v0 n b) reduces_S8x100000_S8 (.inl rfl) rfl a).trans (fold_max _ x hX))
  exact e

theorem weights_at (v0 : Vec Ideal S8x100000 .f32) (n b : FVec Ideal S8x100000 .f32) (a : Fin 8) (x : Fin 100000 → ℝ)
    (hX : ∀ c, k0_pay1 v0 n b (ix2 a c) = (x c : EReal)) (c : Fin 100000) : k0_pay3 v0 n b (ix2 a c) = (weights x c : EReal) := by
  unfold k0_pay3
  rw [exp_at, sub_at]
  rw [lying_row, greatest_at v0 n b a x hX, hX, ← EReal.coe_sub, Ideal.exp_coe]
  rfl

theorem bound_at (v0 : Vec Ideal S8x100000 .f32) (n b : FVec Ideal S8x100000 .f32) (a : Fin 8) (x : Fin 100000 → ℝ)
    (hX : ∀ c, k0_pay1 v0 n b (ix2 a c) = (x c : EReal)) : k0_pay4 v0 n b (ix2 a (0 : Fin 1)) = ((kept * ∑ u, weights x u : ℝ) : EReal) := by
  have e := (standing_row _ a).trans ((row_sum (R := 8) (N := 100000) (k0_pay3 v0 n b) reduces_S8x100000_S8 (.inl rfl) rfl a).trans
    ((Finset.sum_congr rfl fun c _ => weights_at v0 n b a x hX c).trans (sum_coe (weights x))))
  unfold k0_pay4
  rw [mul_at, const_at, e]
  rw [kept_bits, ← EReal.coe_mul]

theorem floor_at (v0 : Vec Ideal S8x100000 .f32) (n b : FVec Ideal S8x100000 .f32) (a : Fin 8) (x : Fin 100000 → ℝ)
    (hX : ∀ c, k0_pay1 v0 n b (ix2 a c) = (x c : EReal)) : k0_pay5 v0 n b (ix2 a (0 : Fin 1)) = ((least x - 1 : ℝ) : EReal) := by
  have e := (standing_row _ a).trans ((row_min (R := 8) (N := 100000) (k0_pay1 v0 n b) reduces_S8x100000_S8 (.inl rfl) rfl a).trans (fold_min _ x hX))
  unfold k0_pay5
  rw [sub_at, const_at, e]
  rw [one_bits, show (1 : EReal) = ((1 : ℝ) : EReal) from rfl, ← EReal.coe_sub]

theorem trips : k0_t1_loop.trips = 8 := rfl

/-- The rule of the search: the weight above a threshold exceeds the kept mass. -/
def Over (x : Fin 100000 → ℝ) (t : ℝ) : Prop := kept * ∑ u, weights x u < mass x (weights x) t

theorem bracket_at (v0 : Vec Ideal S8x100000 .f32) (n b : FVec Ideal S8x100000 .f32) (a : Fin 8) (x : Fin 100000 → ℝ)
    (hX : ∀ c, k0_pay1 v0 n b (ix2 a c) = (x c : EReal)) :
    (bracket v0 n b).2 (ix2 a (0 : Fin 1)) = (((narrow (Over x))^[8] (least x - 1, greatest x)).2 : EReal) := by
  have step : ∀ k : ℕ,
      ((round v0 n b)^[k] (k0_pay5 v0 n b, k0_pay2 v0 n b)).1 (ix2 a (0 : Fin 1)) = (((narrow (Over x))^[k] (least x - 1, greatest x)).1 : EReal)
      ∧ ((round v0 n b)^[k] (k0_pay5 v0 n b, k0_pay2 v0 n b)).2 (ix2 a (0 : Fin 1)) = (((narrow (Over x))^[k] (least x - 1, greatest x)).2 : EReal) := by
    intro k
    induction k with
    | zero =>
      have h1 := floor_at v0 n b a x hX
      have h2 := greatest_at v0 n b a x hX
      simp only [Function.iterate_zero, id_eq]
      exact ⟨h1, h2⟩
    | succ k ih =>
      rw [Function.iterate_succ_apply', Function.iterate_succ_apply', round_eq]
      exact ⟨raised_at _ _ _ _ _ a x (weights x) _ _ _ hX (weights_at v0 n b a x hX) (bound_at v0 n b a x hX) ih.1 ih.2 16 le_rfl,
        lowered_at _ _ _ _ _ a x (weights x) _ _ _ hX (weights_at v0 n b a x hX) (bound_at v0 n b a x hX) ih.1 ih.2 16 le_rfl⟩
  have e : bracket v0 n b = (round v0 n b)^[8] (k0_pay5 v0 n b, k0_pay2 v0 n b) := by
    unfold bracket
    rw [Scf.fold_eq, List.foldl_const, List.length_finRange, trips]
  rw [e]
  exact (step 8).2

open Classical in
theorem choose_coe (x t s : ℝ) : Scalar.select (Ideal.cmp .oge (x : EReal) (t : EReal)) (x : EReal) (s : EReal) = if t ≤ x then (x : EReal) else (s : EReal) := by
  by_cases e : t ≤ x
  · rw [if_pos e, (Ideal.cmp_oge_eq_one _ _).2 (EReal.coe_le_coe_iff.2 e)]
    rfl
  · rw [if_neg e]
    exact if_neg fun h => e (EReal.coe_le_coe_iff.1 ((Ideal.cmp_oge_eq_one _ _).1 h))

theorem whole_ld (x0 : Vec Ideal S8x100000 .f32) : View.ld x0 whole = x0 :=
  View.ld_unit_zero (S := S8x100000) (by funext d; match d with | ⟨0, _⟩ => rfl | ⟨1, _⟩ => rfl) _ x0

open Classical in
/-- The stored block: a logit stands when it reaches the narrowed threshold. -/
theorem filtered_at (x0 : Vec Ideal S8x100000 .f32) (x1 : Vec Ideal S8x32 .f32) (x2 x3 : Vec Ideal S8x32 .i32)
    (h : Fine (R := 8) (N := 100000) x0 x1 x2 x3) (a : Fin 8) (c : Fin 100000) :
    filtered x0 x1 x2 x3 (ix2 a c)
      = if ((narrow (Over (rowLogit (R := 8) (N := 100000) x0 x1 x2 x3 a)))^[8]
            (least (rowLogit (R := 8) (N := 100000) x0 x1 x2 x3 a) - 1, greatest (rowLogit (R := 8) (N := 100000) x0 x1 x2 x3 a))).2
          ≤ rowLogit (R := 8) (N := 100000) x0 x1 x2 x3 a c
        then (rowLogit (R := 8) (N := 100000) x0 x1 x2 x3 a c : EReal) else (sunk : EReal) := by
  have hX := logits_at x0 x1 x2 x3 h a
  unfold filtered
  rw [whole_ld]
  have hb := bracket_at x0 (counted x3) (k0_pay66 (biased x1 x2)) a _ hX
  unfold logits at hX
  unfold k0_pay12
  rw [select_at, cmp_at, lying_row, const_at, hb, hX, sunk_bits]
  exact choose_coe _ _ _

theorem left_eq (x0 : Vec Ideal S8x100000 .f32) (x1 : Vec Ideal S8x32 .f32) (x2 x3 : Vec Ideal S8x32 .i32) :
    left x0 x1 x2 x3 = filtered x0 x1 x2 x3 := by
  unfold left
  exact View.canon_unit_zero (S := S8x100000) (by funext d; match d with | ⟨0, _⟩ => rfl | ⟨1, _⟩ => rfl) _ _

end Cert.Kernel2Ideal.Filtered

end
-- ==== Proof.FilterReference.lean ====
/- The filter's reference, element by element: its logits are the rows' logits, and its result at the column that the sort puts in place `j` of a
   row is that column's logit, or the value of a dropped column where the share of the mass before place `j` is above the kept share. -/
module

public import proofs.«01_k».proof.Defs
public import proofs.«01_k».proof.Proof.Gen.Reference2Ideal.Read
public import proofs.«01_k».proof.Proof.FilterSpec
public import proofs.«01_k».proof.Proof.FilterOps
public import proofs.«01_k».proof.Proof.FilterMath
public import Idealize.ShloMosaic.Lib.ScatterToDense.RefScatter
public import Idealize.ShloMosaic.Lib.WordCmp

@[expose] public section

set_option maxRecDepth 16384

noncomputable section

namespace Cert.Reference2Ideal.Filtered

open Cert.Reference2Ideal Cert.Reference2Ideal.Gen Cert.Reference2Ideal.Read Idealize.ShloMosaic Filter01
open Idealize.ShloMosaic.LaneScatter (lastHit)

variable (x0 : (⟨S64x100000, .f32⟩ : BufTy).Contents (Elt Ideal)) (x1 : (⟨S64x32, .f32⟩ : BufTy).Contents (Elt Ideal))
  (x2 x3 : (⟨S64x32, .i32⟩ : BufTy).Contents (Elt Ideal))

/-! ## Words that are columns or rows -/

/-- A small word is not negative. -/
theorem not_negative {v : BitVec 32} (h : v.toNat < 100000) : IntOp.cmpi .slt v 0#32 = 0#1 := by
  have e : ¬ v.toInt < 0 := by rw [BitVec.toInt_eq_toNat_cond, if_pos (by omega)]; omega
  show BitVec.ofBool (v.slt 0#32) = 0#1
  rw [show v.slt 0#32 = decide (v.toInt < 0) from by simp [BitVec.slt]]
  simp [e]

theorem toInt_small {v : BitVec 32} (h : v.toNat < 100000) : v.toInt = (v.toNat : Int) := by
  rw [BitVec.toInt_eq_toNat_cond, if_pos (by omega)]

theorem toNat_small {n : ℕ} (h : n < 100000) : (BitVec.ofNat 32 n).toNat = n := by rw [BitVec.toNat_ofNat]; omega

theorem row_small (r : Fin 64) : (BitVec.ofNat 32 r.val).toNat < 100000 := by
  rw [toNat_small (by have := r.isLt; omega)]; have := r.isLt; omega

theorem column_small (c : Fin 100000) : (BitVec.ofNat 32 c.val).toNat < 100000 := by
  rw [toNat_small c.isLt]; exact c.isLt

theorem row_toInt (r : Fin 64) : (BitVec.ofNat 32 r.val).toInt = (r.val : Int) := by
  rw [toInt_small (row_small r), toNat_small (by have := r.isLt; omega)]

theorem column_toInt (c : Fin 100000) : (BitVec.ofNat 32 c.val).toInt = (c.val : Int) := by
  rw [toInt_small (column_small c), toNat_small c.isLt]

/-- Indexing from the end is for negative words only. -/
theorem select_small {v : BitVec 32} (h : v.toNat < 100000) (w : BitVec 32) : Scalar.select (IntOp.cmpi .slt v 0#32) w v = v := by
  rw [not_negative h]; rfl

/-! ## The logits -/

theorem pair0 (r : Fin 64) (k : Fin 32) : val_main_v18 (F := Ideal) x2 (ix3 r k 0) = BitVec.ofNat 32 r.val := by
  pointwise [val_main_v18, val_main_v16, val_main_v15, val_main_v9, val_main_v6, val_main_v5, val_main_v3, val_main_v2, val_main_c, val_main_v8]
  exact select_small (row_small r) _

theorem pair1 (h : ∀ p, (x2 p).toNat < 100000) (r : Fin 64) (k : Fin 32) : val_main_v18 (F := Ideal) x2 (ix3 r k 1) = x2 (ix2 r k) := by
  pointwise [val_main_v18, val_main_v17, val_main_v14, val_main_v11, val_main_v10, val_main_c_1]
  exact select_small (h _) _

theorem counted0 (r : Fin 64) (k : Fin 32) : val_main_v37 (F := Ideal) x3 (ix3 r k 0) = BitVec.ofNat 32 r.val := by
  pointwise [val_main_v37, val_main_v35, val_main_v29, val_main_v26, val_main_v25, val_main_v24, val_main_v3, val_main_v2, val_main_c_5, val_main_v28]
  exact select_small (row_small r) _

theorem counted1 (h : ∀ p, (x3 p).toNat < 100000) (r : Fin 64) (k : Fin 32) : val_main_v37 (F := Ideal) x3 (ix3 r k 1) = x3 (ix2 r k) := by
  pointwise [val_main_v37, val_main_v36, val_main_v34, val_main_v31, val_main_v30, val_main_c_7]
  exact select_small (h _) _

theorem nth (k : Fin 32) : Fin.ofNat 32 k.val = k := Fin.ext (Nat.mod_eq_of_lt k.isLt)

/-- The scores spread over a row. -/
theorem score_at (h1 : ∀ p, x1 p = ((x1 p).toReal : EReal)) (h2 : ∀ p, (x2 p).toNat < 100000) (r : Fin 64) (c : Fin 100000) :
    val_main_v19 (F := Ideal) x1 x2 (ix2 r c) = (scoreOf (fun k => (x1 (ix2 r k)).toReal) (fun k => x2 (ix2 r k)) c.val : EReal) := by
  unfold val_main_v19
  refine (ScatterToDense.scatter_eq_GS scatter_S64x100000_S64x32x2_S64x32_n_01_01_2 rfl rfl rfl (by norm_num) (by norm_num)
    (val_main_v4 (F := Ideal)) (val_main_v18 (F := Ideal) x2) x1 (fun r k => x2 (ix2 r (Fin.ofNat 32 k))) (fun r k => x1 (ix2 r (Fin.ofNat 32 k)))
    (fun i k => pair0 x2 i k) (fun i k => (pair1 x2 h2 i k).trans (by rw [nth])) (fun i k => by rw [nth]; rfl) r c).trans ?_
  have e0 : val_main_v4 (F := Ideal) (ix2 r c) = ((0 : ℝ) : EReal) := by
    pointwise [val_main_v4, val_main_cst]
    try simp
  unfold ScatterToDense.GS scoreOf
  refine Eq.trans ?_ (lastHit_map (fun z : ℝ => (z : EReal)) (fun k => c.val = (x2 (ix2 r (Fin.ofNat 32 k))).toNat)
    (fun k => (x1 (ix2 r (Fin.ofNat 32 k))).toReal) 0 32)
  have e1 : (fun k : ℕ => x1 (ix2 r (Fin.ofNat 32 k))) = fun k => (((x1 (ix2 r (Fin.ofNat 32 k))).toReal : ℝ) : EReal) := funext fun k => h1 _
  exact congrArg₂ (fun v f => lastHit (fun k => c.val = (x2 (ix2 r (Fin.ofNat 32 k))).toNat) v f 32) e1 e0

/-- How often a column is among the previous ones. -/
theorem count_at (h3 : ∀ p, (x3 p).toNat < 100000) (r : Fin 64) (c : Fin 100000) :
    val_main_v39 (F := Ideal) x3 (ix2 r c) = ((tally (fun k => x3 (ix2 r k)) c.val 32 : ℝ) : EReal) := by
  unfold val_main_v39
  refine (added_at (R := 64) (N := 100000) (K := 32) scatter_S64x100000_S64x32x2_S64x32_n_01_01_2 rfl rfl rfl (val_main_v23 (F := Ideal))
    (val_main_v37 (F := Ideal) x3) (val_main_v38 (F := Ideal)) (fun a k => (congrArg BitVec.toInt (counted0 x3 a k)).trans (row_toInt a)) r c).trans ?_
  have e0 : val_main_v23 (F := Ideal) (ix2 r c) = (0 : EReal) := by
    pointwise [val_main_v23, val_main_cst_4]
    try simp
  have e1 : ∀ k : Fin 32, val_main_v38 (F := Ideal) (ix2 r k) = (1 : EReal) := fun k => by
    pointwise [val_main_v38, val_main_cst_9]
  rw [← tally_coe, tally_eq_sum, e0, zero_add]
  refine Finset.sum_congr rfl fun k _ => ?_
  rw [e1 k, counted1 x3 h3 r k, toInt_small (h3 _)]
  by_cases hc : c.val = (x3 (ix2 r k)).toNat
  · rw [if_pos hc, if_pos (by exact_mod_cast hc.symm)]
  · rw [if_neg hc, if_neg (fun e => hc (by exact_mod_cast e.symm))]

variable (h : Fine (R := 64) (N := 100000) x0 x1 x2 x3)
include h

/-- The reference's logits. -/
theorem logit_at (r : Fin 64) (c : Fin 100000) :
    val_main_v44 (F := Ideal) x0 x1 x2 x3 (ix2 r c) = (rowLogit (R := 64) (N := 100000) x0 x1 x2 x3 r c : EReal) := by
  pointwise [val_main_v44, val_main_v43, val_main_v42, val_main_v41, val_main_v40, val_main_v22, val_main_v21, val_main_v20, val_main_cst_3,
    val_main_cst_10, val_main_cst_11]
  rw [score_at x1 x2 h.score h.name r c, count_at x3 h.previous r c, weight_bits, penalty_bits, warmth_bits]
  exact (congrArg (fun b : EReal => Ideal.div (b + _ - _) _) (h.base (ix2 r c))).trans (logit_coe _ _ _)

end Cert.Reference2Ideal.Filtered

end
-- ==== Proof.FilterSorted.lean ====
/- The filter's reference after its logits: the sort, the shares of the mass before each place, and the result put back at its columns. -/
module

public import proofs.«01_k».proof.Proof.FilterReference

@[expose] public section

set_option maxRecDepth 16384

noncomputable section

namespace Cert.Reference2Ideal.Filtered

open Cert.Reference2Ideal Cert.Reference2Ideal.Gen Cert.Reference2Ideal.Read Idealize.ShloMosaic Filter01

variable (x0 : (⟨S64x100000, .f32⟩ : BufTy).Contents (Elt Ideal)) (x1 : (⟨S64x32, .f32⟩ : BufTy).Contents (Elt Ideal))
  (x2 x3 : (⟨S64x32, .i32⟩ : BufTy).Contents (Elt Ideal))

/-! ## The sort -/

/-- The comparison of two keys is that of the extended reals. -/
theorem comparator_iff (a b : EReal) (i j : BitVec 32) : comparator_f32_i32_d1 (F := Ideal) (a, i) (b, j) = 1#1 ↔ a < b := by
  have hz : ∀ z : EReal, Scalar.select (Ideal.cmp .oeq z (Ideal.ofBits .f32 0x00000000#32)) (Ideal.ofBits .f32 0x00000000#32) z = z := fun z => by
    rw [zero_bits]
    by_cases e : z = 0
    · subst e; unfold Scalar.select; split <;> rfl
    · have : Ideal.cmp .oeq z 0 = 0#1 := by simp [Ideal.cmp, e]
      rw [this]; rfl
  have hn : ∀ z w y : EReal, Scalar.select (Ideal.cmp .une z z) w y = y := fun z w y => by
    have : Ideal.cmp .une z z = 0#1 := by simp [Ideal.cmp]
    rw [this]; rfl
  show Ideal.cmpTotal .lt
      (Scalar.select (Ideal.cmp .une a a) (Ideal.ofBits .f32 0x7FC00000#32)
        (Scalar.select (Ideal.cmp .oeq a (Ideal.ofBits .f32 0x00000000#32)) (Ideal.ofBits .f32 0x00000000#32) a))
      (Scalar.select (Ideal.cmp .une b b) (Ideal.ofBits .f32 0x7FC00000#32)
        (Scalar.select (Ideal.cmp .oeq b (Ideal.ofBits .f32 0x00000000#32)) (Ideal.ofBits .f32 0x00000000#32) b)) = 1#1 ↔ a < b
  rw [hn, hn, hz, hz]
  show Ideal.cmp .olt a b = 1#1 ↔ a < b
  by_cases e : a < b <;> simp [Ideal.cmp, e]

/-- The order in which the sort reads a row. -/
def places (r : Fin 64) : Fin 100000 → Fin 100000 :=
  order (R := 64) (N := 100000) (α := EReal) (β := BitVec 32) (comparator_f32_i32_d1 (F := Ideal)) (val_main_v45 (F := Ideal) x0 x1 x2 x3)
    (val_main_call0_v0 (F := Ideal)) r

theorem places_bijective (r : Fin 64) : Function.Bijective (places x0 x1 x2 x3 r) :=
  order_bijective (R := 64) (N := 100000) (α := EReal) (β := BitVec 32) (comparator_f32_i32_d1 (F := Ideal)) (val_main_v45 (F := Ideal) x0 x1 x2 x3)
    (val_main_call0_v0 (F := Ideal)) r

/-- The sorted places hold the columns' numbers. -/
theorem place_word (r : Fin 64) (j : Fin 100000) :
    val_main_v46 (F := Ideal) x0 x1 x2 x3 (ix2 r j) = BitVec.ofNat 32 (places x0 x1 x2 x3 r j).val := by
  unfold val_main_v46
  exact sorted_carried (R := 64) (N := 100000) (α := EReal) (β := BitVec 32) (comparator_f32_i32_d1 (F := Ideal)) (val_main_v45 (F := Ideal) x0 x1 x2 x3)
    (val_main_call0_v0 (F := Ideal)) r j

theorem place_index (r : Fin 64) (j : Fin 100000) :
    val_main_call1_v5 (F := Ideal) x0 x1 x2 x3 (ix3 r j 0) = BitVec.ofNat 32 (places x0 x1 x2 x3 r j).val := by
  rw [val_main_call1_v5_apply]
  have e : idx_main_call1_v5 (ix3 r j (0 : Fin 1)) = ix2 r j := by
    have hj := j.isLt
    funext a
    refine Fin.ext ?_
    match a with
    | ⟨0, _⟩ => show ((r.val * 100000 + j.val) * 1 + 0) / 100000 = r.val; omega
    | ⟨1, _⟩ => show ((r.val * 100000 + j.val) * 1 + 0) % 100000 = j.val; omega
  rw [e, val_main_call1_v4_apply, val_main_call1_v1_apply, place_word]
  have e0 : val_main_call1_v0 (F := Ideal) (ix2 r j) = 0#32 := by pointwise [val_main_call1_v0, val_main_call1_c]
  rw [e0]
  exact select_small (column_small _) _

/-- A word below the row's length passes the test that it lies in the row. -/
theorem inside_word (w : BitVec 32) (k : Nat) (hw : w.toInt = (k : Int)) (hk : k < 100000) :
    IntOp.cmpi .sge w 0#32 = 1#1 ∧ IntOp.cmpi .sle w 99999#32 = 1#1 := by
  constructor
  · show BitVec.ofBool ((0#32).sle w) = 1#1
    have e : (0#32).sle w = true := by
      rw [BitVec.sle_eq_decide, hw]
      exact decide_eq_true (by rw [show (0#32 : BitVec 32).toInt = 0 by decide]; omega)
    rw [e]
    rfl
  · show BitVec.ofBool (w.sle 99999#32) = 1#1
    have e : w.sle 99999#32 = true := by
      rw [BitVec.sle_eq_decide, hw]
      exact decide_eq_true (by rw [show (99999#32 : BitVec 32).toInt = 99999 by decide]; omega)
    rw [e]
    rfl

/-- Every place is inside the row. -/
theorem place_inside (r : Fin 64) (j : Fin 100000) : val_main_call1_v12 (F := Ideal) x0 x1 x2 x3 (ix2 r j) = 1#1 := by
  unfold val_main_call1_v12
  refine host_row_and (R := 64) (N := 100000) _ _ (fun p => rfl) _ _ r j ?_
  rw [val_main_call1_v11_apply, val_main_call1_v7_apply, val_main_call1_v10_apply, place_index]
  have e6 : val_main_call1_v6 (F := Ideal) (ix3 r j (0 : Fin 1)) = 0#32 := by pointwise [val_main_call1_v6, val_main_call1_c_2]
  have e9 : val_main_call1_v9 (F := Ideal) (ix3 r j (0 : Fin 1)) = 99999#32 := by
    pointwise [val_main_call1_v9, val_main_call1_v8, val_main_call1_c_1]
  rw [e6, e9]
  have g := inside_word _ _ (column_toInt (places x0 x1 x2 x3 r j)) (places x0 x1 x2 x3 r j).isLt
  rw [g.1, g.2]
  rfl

variable (h : Fine (R := 64) (N := 100000) x0 x1 x2 x3)
include h

/-- A row's logits in the sorted order. -/
theorem sorted_at (r : Fin 64) (j : Fin 100000) :
    val_main_v47 (F := Ideal) x0 x1 x2 x3 (ix2 r j) = (rowLogit (R := 64) (N := 100000) x0 x1 x2 x3 r (places x0 x1 x2 x3 r j) : EReal) := by
  rw [val_main_v47_apply, place_inside]
  show val_main_call1_v13 (F := Ideal) x0 x1 x2 x3 (ix2 r j) = _
  unfold val_main_call1_v13
  refine (taken_along (R := 64) (N := 100000) gather_S64x100000_S64x100000x1_S64x100000_n_1_0_0_1_2_11 rfl rfl rfl rfl rfl rfl
    (val_main_v44 (F := Ideal) x0 x1 x2 x3) (val_main_call1_v5 (F := Ideal) x0 x1 x2 x3) r j (places x0 x1 x2 x3 r j) ?_).trans
    (logit_at x0 x1 x2 x3 h r _)
  exact (congrArg BitVec.toInt (place_index x0 x1 x2 x3 r j)).trans (column_toInt _)

/-- The sorted order goes from the greatest logit to the least. -/
theorem descending (r : Fin 64) (i j : Fin 100000) (hij : i < j) :
    rowLogit (R := 64) (N := 100000) x0 x1 x2 x3 r (places x0 x1 x2 x3 r j) ≤ rowLogit (R := 64) (N := 100000) x0 x1 x2 x3 r (places x0 x1 x2 x3 r i) := by
  let B : Fin 100000 → Fin 100000 → Bool := fun k k' =>
    comparator_f32_i32_d1 (F := Ideal) (val_main_v45 (F := Ideal) x0 x1 x2 x3 (ix2 r k), val_main_call0_v0 (F := Ideal) (ix2 r k))
      (val_main_v45 (F := Ideal) x0 x1 x2 x3 (ix2 r k'), val_main_call0_v0 (F := Ideal) (ix2 r k')) == 1#1
  have hB : ∀ k k', B k k' = true ↔ rowLogit (R := 64) (N := 100000) x0 x1 x2 x3 r k' < rowLogit (R := 64) (N := 100000) x0 x1 x2 x3 r k := fun k k' => by
    show (_ == _) = true ↔ _
    rw [beq_iff_eq, comparator_iff]
    have e : ∀ k, val_main_v45 (F := Ideal) x0 x1 x2 x3 (ix2 r k) = ((-rowLogit (R := 64) (N := 100000) x0 x1 x2 x3 r k : ℝ) : EReal) := fun k => by
      rw [val_main_v45_apply, logit_at x0 x1 x2 x3 h r k]
      rfl
    rw [e, e, EReal.coe_lt_coe_iff]
    exact neg_lt_neg_iff
  have hB' : ∀ k k', B k k' = false ↔ rowLogit (R := 64) (N := 100000) x0 x1 x2 x3 r k ≤ rowLogit (R := 64) (N := 100000) x0 x1 x2 x3 r k' := fun k k' => by
    rw [Bool.eq_false_iff, ne_eq, hB, not_lt]
  have key := sortedFrom_noInversion B B (fun a b e => (hB' b a).2 ((hB a b).1 e).le) (fun a b e => e)
    (fun a b c e f => (hB' a c).2 (((hB' a b).1 e).trans ((hB' b c).1 f))) i j hij
  exact (hB' _ _).1 key

/-! ## The shares -/

/-- The greatest of a row. -/
theorem greatest_at (r : Fin 64) :
    val_main_v50 (F := Ideal) x0 x1 x2 x3 (ix1 r) = (greatest (rowLogit (R := 64) (N := 100000) x0 x1 x2 x3 r) : EReal) := by
  have e48 : val_main_v48 (F := Ideal) x0 x1 x2 x3 (ix1 r) = (greatest (rowLogit (R := 64) (N := 100000) x0 x1 x2 x3 r) : EReal) := by
    unfold val_main_v48
    refine (host_row_max (R := 64) (N := 100000) (val_main_v47 (F := Ideal) x0 x1 x2 x3) (val_main_cst_12 (F := Ideal)) ⊥
      (fun p => bottom_bits) _ _ r).trans ?_
    refine (fold_max _ (fun j => rowLogit (R := 64) (N := 100000) x0 x1 x2 x3 r (places x0 x1 x2 x3 r j)) fun j => sorted_at x0 x1 x2 x3 h r j).trans ?_
    rw [greatest_comp _ _ (places_bijective x0 x1 x2 x3 r)]
  have e49 : val_main_v49 (F := Ideal) (ix1 r) = (⊥ : EReal) := by
    rw [val_main_v49_apply]
    exact bottom_bits
  rw [val_main_v50_apply, e48, e49]
  exact max_eq_right bot_le

omit h in
theorem weight_of (a b : ℝ) : FloatOps.hostUnary (F := Ideal) (φ := .f32) .exp (FloatOps.subf (F := Ideal) (φ := .f32) (a : EReal) (b : EReal)) = ((Real.exp (a - b) : ℝ) : EReal) := by
  show Ideal.exp ((a : EReal) - (b : EReal)) = _
  rw [← EReal.coe_sub, Ideal.exp_coe]

omit h in
theorem share_of (a b : ℝ) (hb : b ≠ 0) : FloatOps.hostDivf (F := Ideal) (φ := .f32) (a : EReal) (b : EReal) = ((a / b : ℝ) : EReal) := by
  show Ideal.div (a : EReal) (b : EReal) = _
  rw [Ideal.div_coe hb, ← EReal.coe_mul, mul_one_div]

/-- The weights in the sorted order. -/
theorem weight_at (r : Fin 64) (j : Fin 100000) :
    val_main_v54 (F := Ideal) x0 x1 x2 x3 (ix2 r j)
      = (weights (rowLogit (R := 64) (N := 100000) x0 x1 x2 x3 r) (places x0 x1 x2 x3 r j) : EReal) := by
  have e : idx_main_v51 (idx_main_v52 (ix2 r j)) = ix1 r := by
    funext a
    match a with
    | ⟨0, _⟩ => rfl
  rw [val_main_v54_apply, val_main_v53_apply, val_main_v52_apply, val_main_v51_apply, e, sorted_at x0 x1 x2 x3 h r j,
    greatest_at x0 x1 x2 x3 h r]
  exact weight_of _ _

/-- The whole weight of a row. -/
theorem whole_at (r : Fin 64) :
    val_main_v55 (F := Ideal) x0 x1 x2 x3 (ix1 r) = ((∑ u, weights (rowLogit (R := 64) (N := 100000) x0 x1 x2 x3 r) u : ℝ) : EReal) := by
  unfold val_main_v55
  refine (host_row_sum (R := 64) (N := 100000) (val_main_v54 (F := Ideal) x0 x1 x2 x3) (val_main_cst_14 (F := Ideal)) 0
    (fun p => zero_bits) _ _ r).trans ?_
  rw [zero_add, Finset.sum_congr rfl fun j _ => weight_at x0 x1 x2 x3 h r j, sum_coe,
    Function.Bijective.sum_comp (places_bijective x0 x1 x2 x3 r) (weights (rowLogit (R := 64) (N := 100000) x0 x1 x2 x3 r))]

theorem whole_pos (r : Fin 64) : 0 < ∑ u, weights (rowLogit (R := 64) (N := 100000) x0 x1 x2 x3 r) u :=
  Finset.sum_pos (fun u _ => weights_pos _ u) ⟨0, Finset.mem_univ _⟩

/-- The shares in the sorted order. -/
theorem share_at (r : Fin 64) (j : Fin 100000) :
    val_main_v58 (F := Ideal) x0 x1 x2 x3 (ix2 r j)
      = ((weights (rowLogit (R := 64) (N := 100000) x0 x1 x2 x3 r) (places x0 x1 x2 x3 r j)
          / ∑ u, weights (rowLogit (R := 64) (N := 100000) x0 x1 x2 x3 r) u : ℝ) : EReal) := by
  have e : idx_main_v56 (idx_main_v57 (ix2 r j)) = ix1 r := by
    funext a
    match a with
    | ⟨0, _⟩ => rfl
  rw [val_main_v58_apply, val_main_v57_apply, val_main_v56_apply, e, weight_at x0 x1 x2 x3 h r j, whole_at x0 x1 x2 x3 h r]
  exact share_of _ _ (whole_pos x0 x1 x2 x3 h r).ne'

/-- The running share. -/
theorem running_at (r : Fin 64) (j : Fin 100000) :
    val_main_v59 (F := Ideal) x0 x1 x2 x3 (ix2 r j)
      = ((∑ i : Fin 100000, if i.val ≤ j.val then weights (rowLogit (R := 64) (N := 100000) x0 x1 x2 x3 r) (places x0 x1 x2 x3 r i)
          / ∑ u, weights (rowLogit (R := 64) (N := 100000) x0 x1 x2 x3 r) u else 0 : ℝ) : EReal) := by
  unfold val_main_v59
  refine (running_sum (R := 64) (N := 100000) (Nm1 := 99999) (by norm_num) (val_main_v58 (F := Ideal) x0 x1 x2 x3) (val_main_call2_call0_v0 (F := Ideal))
    (fun p => ?_) reduceWindows_S64x100000_S64x100000_w1s1p0_0_w100000s1p99999_0 h_S_ r j).trans ?_
  · rw [val_main_call2_call0_v0_apply]
    exact zero_bits
  · rw [← sum_coe]
    refine Finset.sum_congr rfl fun i _ => ?_
    by_cases e : i.val ≤ j.val
    · rw [if_pos e, if_pos e]; exact share_at x0 x1 x2 x3 h r i
    · rw [if_neg e, if_neg e]; rfl

/-- The places that the filter drops. -/
theorem dropped_at (r : Fin 64) (j : Fin 100000) :
    val_main_v65 (F := Ideal) x0 x1 x2 x3 (ix2 r j) = 1#1
      ↔ Dropped (weights (rowLogit (R := 64) (N := 100000) x0 x1 x2 x3 r)) (places x0 x1 x2 x3 r) kept j := by
  unfold val_main_v65
  rw [show concatenate S64x100000 1 [⟨S64x1, (val_main_v63 (F := Ideal))⟩, ⟨S64x99999, (val_main_v64 (F := Ideal) x0 x1 x2 x3)⟩] concatenates_S64x1_S64x99999_S64x100000_d1 (ix2 r j)
    = _ from shifted (R := 64) (N := 99999) (M := 100000) (by norm_num) (val_main_v63 (F := Ideal)) (val_main_v64 (F := Ideal) x0 x1 x2 x3) concatenates_S64x1_S64x99999_S64x100000_d1 r j]
  unfold Dropped
  by_cases hj : j.val = 0
  · rw [dif_pos hj, val_main_v63_apply, val_main_c_16_apply]
    constructor
    · intro e; exact absurd e (by decide)
    · rintro ⟨e, _⟩; omega
  · rw [dif_neg hj, val_main_v64_apply]
    have e : idx_main_v64 (ix2 r (⟨j.val - 1, by have := j.isLt; omega⟩ : Fin 99999)) = ix2 r (⟨j.val - 1, by have := j.isLt; omega⟩ : Fin 100000) := by
      funext a
      match a with
      | ⟨0, _⟩ => rfl
      | ⟨1, _⟩ => rfl
    rw [e, val_main_v61_apply, running_at x0 x1 x2 x3 h r]
    have e60 : val_main_v60 (F := Ideal) (ix2 r (⟨j.val - 1, by have := j.isLt; omega⟩ : Fin 100000)) = (kept : EReal) := by
      rw [val_main_v60_apply]
      exact kept_bits
    rw [e60]
    show Ideal.cmp .ogt _ _ = 1#1 ↔ _
    have hs : (∑ i : Fin 100000, if i.val ≤ j.val - 1 then weights (rowLogit (R := 64) (N := 100000) x0 x1 x2 x3 r) (places x0 x1 x2 x3 r i)
          / ∑ u, weights (rowLogit (R := 64) (N := 100000) x0 x1 x2 x3 r) u else 0)
        = ∑ i : Fin 100000, if i.val < j.val then weights (rowLogit (R := 64) (N := 100000) x0 x1 x2 x3 r) (places x0 x1 x2 x3 r i)
          / ∑ u, weights (rowLogit (R := 64) (N := 100000) x0 x1 x2 x3 r) u else 0 :=
      Finset.sum_congr rfl fun i _ => by
        by_cases hi : i.val < j.val
        · rw [if_pos hi, if_pos (by omega)]
        · rw [if_neg hi, if_neg (by omega)]
    show Ideal.cmp .ogt (((∑ i : Fin 100000, if i.val ≤ j.val - 1 then weights (rowLogit (R := 64) (N := 100000) x0 x1 x2 x3 r) (places x0 x1 x2 x3 r i)
          / ∑ u, weights (rowLogit (R := 64) (N := 100000) x0 x1 x2 x3 r) u else 0 : ℝ)) : EReal) (kept : EReal) = 1#1 ↔ _
    rw [hs]
    refine (Ideal.cmp_ogt_eq_one _ _).trans ?_
    rw [EReal.coe_lt_coe_iff]
    exact ⟨fun e => ⟨by omega, e⟩, fun e => e.2⟩

/-! ## The result -/

theorem back0 (r : Fin 64) (j : Fin 100000) : val_main_v81 (F := Ideal) x0 x1 x2 x3 (ix3 r j 0) = BitVec.ofNat 32 r.val := by
  unfold val_main_v81
  refine (pair_first (R := 64) (K := 100000) (val_main_v79 (F := Ideal)) (val_main_v80 (F := Ideal) x0 x1 x2 x3) _ r j).trans ?_
  pointwise [val_main_v79, val_main_v78, val_main_v72, val_main_v69, val_main_v68, val_main_c_19, val_main_v1, val_main_v0]
  exact select_small (row_small r) _

theorem back1 (r : Fin 64) (j : Fin 100000) :
    val_main_v81 (F := Ideal) x0 x1 x2 x3 (ix3 r j 1) = BitVec.ofNat 32 (places x0 x1 x2 x3 r j).val := by
  unfold val_main_v81
  refine (pair_second (R := 64) (K := 100000) (val_main_v79 (F := Ideal)) (val_main_v80 (F := Ideal) x0 x1 x2 x3) _ r j).trans ?_
  pointwise [val_main_v80, val_main_v77, val_main_v74, val_main_v73, val_main_c_21]
  rw [place_word]
  exact select_small (column_small _) _

open Classical in
/-- The reference's result at the column in place `j` of row `r`. -/
theorem result_at (r : Fin 64) (j : Fin 100000) :
    val_main_v82 (F := Ideal) x0 x1 x2 x3 (ix2 r (places x0 x1 x2 x3 r j))
      = if Dropped (weights (rowLogit (R := 64) (N := 100000) x0 x1 x2 x3 r)) (places x0 x1 x2 x3 r) kept j then (sunk : EReal)
        else (rowLogit (R := 64) (N := 100000) x0 x1 x2 x3 r (places x0 x1 x2 x3 r j) : EReal) := by
  unfold val_main_v82
  refine (put_back (R := 64) (N := 100000) (K := 100000) scatter_S64x100000_S64x100000x2_S64x100000_n_01_01_2 rfl rfl rfl
    (val_main_v67 (F := Ideal)) (val_main_v81 (F := Ideal) x0 x1 x2 x3) (val_main_v66 (F := Ideal) x0 x1 x2 x3)
    (fun a k => (congrArg BitVec.toInt (back0 x0 x1 x2 x3 h a k)).trans (row_toInt a)) (places x0 x1 x2 x3 r) (places_bijective x0 x1 x2 x3 r).1 r
    (fun k => (congrArg BitVec.toInt (back1 x0 x1 x2 x3 h r k)).trans (column_toInt _)) j).trans ?_
  rw [val_main_v66_apply, sorted_at x0 x1 x2 x3 h r j]
  have e : val_main_call3_v1 (F := Ideal) (ix2 r j) = (sunk : EReal) := by
    rw [val_main_call3_v1_apply]
    exact sunk_bits
  rw [e]
  by_cases hd : Dropped (weights (rowLogit (R := 64) (N := 100000) x0 x1 x2 x3 r)) (places x0 x1 x2 x3 r) kept j
  · rw [if_pos hd, (dropped_at x0 x1 x2 x3 h r j).2 hd]
    rfl
  · rw [if_neg hd]
    exact if_neg fun e => hd ((dropped_at x0 x1 x2 x3 h r j).1 e)

end Cert.Reference2Ideal.Filtered

end
-- ==== Proof.FilterCut.lean ====
/- What the restriction of the filter's claim says of an entry: below the least logit kept, or above it by more than the slack. -/
module

public import proofs.«01_k».proof.Proof.FilterSorted
public import proofs.«01_k».proof.Proof.FilterMath
public import proofs.«01_k».proof.Proof.Gen.On_clear_of_the_cut

@[expose] public section

set_option maxRecDepth 16384

noncomputable section

namespace Cert.On_clear_of_the_cut.Filtered

open Cert.On_clear_of_the_cut Cert.On_clear_of_the_cut.Gen Idealize.ShloMosaic Filter01
open Cert.Reference2Ideal.Read (val_main_v44 val_main_v47 val_main_v65)
open Cert.Reference2Ideal.Filtered

variable (x0 : (⟨S64x100000, .f32⟩ : BufTy).Contents (Elt Ideal)) (x1 : (⟨S64x32, .f32⟩ : BufTy).Contents (Elt Ideal))
  (x2 x3 : (⟨S64x32, .i32⟩ : BufTy).Contents (Elt Ideal))

/-- The sorted logits, with `+∞` at the places dropped. -/
def standing : FVec Ideal S64x100000 .f32 := fn_where (F := Ideal) (val_main_v65 (F := Ideal) x0 x1 x2 x3) (constant S_ .f32 0x7F800000#32) (val_main_v47 (F := Ideal) x0 x1 x2 x3)

/-- The least logit kept, per row. -/
def leastKept : FVec Ideal S64 .f32 := Host.reduce FloatOps.minimumf (standing x0 x1 x2 x3) (constant (F := Ideal) S_ .f32 0x7F800000#32) Facts.reducesTo_S64x100000_S64_d1 Facts.h_S_

/-- The greatest logit, per row. -/
def greatestOf : FVec Ideal S64 .f32 := Host.reduce FloatOps.maximumf (val_main_v44 (F := Ideal) x0 x1 x2 x3) (constant (F := Ideal) S_ .f32 0xFF800000#32) Facts.reducesTo_S64x100000_S64_d1 Facts.h_S_

/-- The least logit, per row. -/
def leastOf : FVec Ideal S64 .f32 := Host.reduce FloatOps.minimumf (val_main_v44 (F := Ideal) x0 x1 x2 x3) (constant (F := Ideal) S_ .f32 0x7F800000#32) Facts.reducesTo_S64x100000_S64_d1 Facts.h_S_

/-- The restriction in the reference's own terms. -/
theorem fn_eq : fn (F := Ideal) x0 x1 x2 x3
    = fn_part4 (F := Ideal) (val_main_v44 (F := Ideal) x0 x1 x2 x3) (broadcastInDim S64x1 ![0] Facts.bcast_S64_S64x1_0 (leastKept x0 x1 x2 x3))
        (subf (broadcastInDim S64x1 ![0] Facts.bcast_S64_S64x1_0 (greatestOf x0 x1 x2 x3)) (broadcastInDim S64x1 ![0] Facts.bcast_S64_S64x1_0 (leastOf x0 x1 x2 x3)))
        (constant S_ .f32 0x3F800000#32) := rfl

/-- The last part of the restriction, at one entry. -/
theorem part4_at (v42 : FVec Ideal S64x100000 .f32) (a b e : FVec Ideal S64 .f32) (r : Fin 64) (c : Fin 100000) :
    fn_part4 (F := Ideal) v42 (broadcastInDim S64x1 ![0] Facts.bcast_S64_S64x1_0 a)
        (subf (broadcastInDim S64x1 ![0] Facts.bcast_S64_S64x1_0 b) (broadcastInDim S64x1 ![0] Facts.bcast_S64_S64x1_0 e)) (constant S_ .f32 0x3F800000#32) (ix2 r c)
      = IntOp.ori (Ideal.cmp .olt (v42 (ix2 r c)) (a (ix1 r)))
          (Ideal.cmp .ogt (v42 (ix2 r c)) (a (ix1 r) + Ideal.div (b (ix1 r) - e (ix1 r) + Ideal.ofBits .f32 0x3F800000#32) (Ideal.ofBits .f32 0x4F800000#32))) := by
  pointwise [fn_part4]

theorem sixteen_bits : Ideal.ofBits .f32 0x4F800000#32 = (((16 : ℝ) ^ 8 : ℝ) : EReal) := by
  have e : Ideal.ofBits .f32 0x4F800000#32 = ((4294967296 : ℝ) : EReal) := by
    simp [Ideal.ofBits, Ideal.ieee, -EReal.coe_mul]
    norm_num
  rw [e]
  norm_num

theorem or_one (a b : BitVec 1) (h : IntOp.ori a b = 1#1) : a = 1#1 ∨ b = 1#1 := by
  revert a b
  decide

variable (h : Fine (R := 64) (N := 100000) x0 x1 x2 x3)
include h

theorem greatestOf_at (r : Fin 64) : greatestOf x0 x1 x2 x3 (ix1 r) = (greatest (rowLogit (R := 64) (N := 100000) x0 x1 x2 x3 r) : EReal) := by
  unfold greatestOf
  exact (host_row_max (R := 64) (N := 100000) (val_main_v44 (F := Ideal) x0 x1 x2 x3) (constant (F := Ideal) S_ .f32 0xFF800000#32) ⊥ (fun p => bottom_bits) _ _ r).trans
    (fold_max _ (rowLogit (R := 64) (N := 100000) x0 x1 x2 x3 r) fun c => logit_at x0 x1 x2 x3 h r c)

theorem leastOf_at (r : Fin 64) : leastOf x0 x1 x2 x3 (ix1 r) = (least (rowLogit (R := 64) (N := 100000) x0 x1 x2 x3 r) : EReal) := by
  unfold leastOf
  exact (host_row_min (R := 64) (N := 100000) (val_main_v44 (F := Ideal) x0 x1 x2 x3) (constant (F := Ideal) S_ .f32 0x7F800000#32) ⊤ (fun p => top_bits) _ _ r).trans
    (fold_min _ (rowLogit (R := 64) (N := 100000) x0 x1 x2 x3 r) fun c => logit_at x0 x1 x2 x3 h r c)

open Classical in
theorem standing_at (r : Fin 64) (j : Fin 100000) : standing x0 x1 x2 x3 (ix2 r j)
    = if Dropped (weights (rowLogit (R := 64) (N := 100000) x0 x1 x2 x3 r)) (places x0 x1 x2 x3 r) kept j then (⊤ : EReal)
      else (rowLogit (R := 64) (N := 100000) x0 x1 x2 x3 r (places x0 x1 x2 x3 r j) : EReal) := by
  show Scalar.select (val_main_v65 (F := Ideal) x0 x1 x2 x3 (ix2 r j)) (Ideal.ofBits .f32 0x7F800000#32) (val_main_v47 (F := Ideal) x0 x1 x2 x3 (ix2 r j)) = _
  rw [sorted_at x0 x1 x2 x3 h r j, top_bits]
  by_cases hd : Dropped (weights (rowLogit (R := 64) (N := 100000) x0 x1 x2 x3 r)) (places x0 x1 x2 x3 r) kept j
  · rw [if_pos hd, (dropped_at x0 x1 x2 x3 h r j).2 hd]
    rfl
  · rw [if_neg hd]
    exact if_neg fun e => hd ((dropped_at x0 x1 x2 x3 h r j).1 e)

omit h in
open Classical in
/-- The least of the finite entries of a family that has one. -/
theorem least_standing {n : ℕ} (g : Fin n → EReal) (f : Fin n → ℝ) (D : Fin n → Prop) (hg : ∀ j, g j = if D j then ⊤ else (f j : EReal)) (j0 : Fin n) (hj0 : ¬ D j0) :
    ∃ cut : ℝ, Finset.univ.fold min ⊤ g = (cut : EReal) ∧ (∀ j, ¬ D j → cut ≤ f j) ∧ ∃ j, ¬ D j ∧ cut = f j := by
  have key : ∀ s : Finset (Fin n), (∀ j ∈ s, D j) ∧ s.fold min ⊤ g = ⊤
      ∨ ∃ cut : ℝ, s.fold min ⊤ g = (cut : EReal) ∧ (∀ j ∈ s, ¬ D j → cut ≤ f j) ∧ ∃ j, ¬ D j ∧ cut = f j := by
    intro s
    induction s using Finset.induction_on with
    | empty => exact Or.inl ⟨fun j hj => absurd hj (Finset.notMem_empty j), Finset.fold_empty⟩
    | insert a s ha ih =>
      rw [Finset.fold_insert ha, hg a]
      by_cases hD : D a
      · rw [if_pos hD, min_eq_right le_top]
        rcases ih with ⟨h1, h2⟩ | ⟨cut, h1, h2, h3⟩
        · exact Or.inl ⟨fun j hj => (Finset.mem_insert.1 hj).elim (fun e => e ▸ hD) (h1 j), h2⟩
        · exact Or.inr ⟨cut, h1, fun j hj hn => (Finset.mem_insert.1 hj).elim (fun e => absurd (e ▸ hD) hn) (fun e => h2 j e hn), h3⟩
      · rw [if_neg hD]
        rcases ih with ⟨h1, h2⟩ | ⟨cut, h1, h2, j, hj, e⟩
        · refine Or.inr ⟨f a, by rw [h2, min_eq_left le_top], fun j hj hn => ?_, a, hD, rfl⟩
          rcases Finset.mem_insert.1 hj with e | e
          · rw [e]
          · exact absurd (h1 j e) hn
        · refine Or.inr ⟨min (f a) cut, by rw [h1]; exact (EReal.coe_strictMono.monotone.map_min).symm, fun k hk hn => ?_, ?_⟩
          · rcases Finset.mem_insert.1 hk with e' | e'
            · rw [e']; exact min_le_left _ _
            · exact (min_le_right _ _).trans (h2 k e' hn)
          · rcases le_total (f a) cut with hle | hle
            · exact ⟨a, hD, min_eq_left hle⟩
            · exact ⟨j, hj, (min_eq_right hle).trans e⟩
  rcases key Finset.univ with ⟨h1, _⟩ | ⟨cut, h1, h2, h3⟩
  · exact absurd (h1 j0 (Finset.mem_univ _)) hj0
  · exact ⟨cut, h1, fun j hn => h2 j (Finset.mem_univ _) hn, h3⟩

/-- At an entry that the restriction selects, the bracket's upper end and the sorted order agree about what is kept. -/
theorem kept_at (r : Fin 64) (j : Fin 100000) (hon : fn (F := Ideal) x0 x1 x2 x3 (ix2 r (places x0 x1 x2 x3 r j)) = 1#1) :
    ((narrow (fun t => kept * ∑ u, weights (rowLogit (R := 64) (N := 100000) x0 x1 x2 x3 r) u
          < mass (rowLogit (R := 64) (N := 100000) x0 x1 x2 x3 r) (weights (rowLogit (R := 64) (N := 100000) x0 x1 x2 x3 r)) t))^[8]
        (least (rowLogit (R := 64) (N := 100000) x0 x1 x2 x3 r) - 1, greatest (rowLogit (R := 64) (N := 100000) x0 x1 x2 x3 r))).2
      ≤ rowLogit (R := 64) (N := 100000) x0 x1 x2 x3 r (places x0 x1 x2 x3 r j)
    ↔ ¬ Dropped (weights (rowLogit (R := 64) (N := 100000) x0 x1 x2 x3 r)) (places x0 x1 x2 x3 r) kept j := by
  obtain ⟨cut, hc, hle, hat⟩ := least_standing (fun j => standing x0 x1 x2 x3 (ix2 r j))
    (fun j => rowLogit (R := 64) (N := 100000) x0 x1 x2 x3 r (places x0 x1 x2 x3 r j))
    (fun j => Dropped (weights (rowLogit (R := 64) (N := 100000) x0 x1 x2 x3 r)) (places x0 x1 x2 x3 r) kept j)
    (fun j => standing_at x0 x1 x2 x3 h r j) 0 (fun e => Nat.lt_irrefl _ e.1)
  have hk : leastKept x0 x1 x2 x3 (ix1 r) = (cut : EReal) := by
    unfold leastKept
    exact (host_row_min (R := 64) (N := 100000) (standing x0 x1 x2 x3) (constant (F := Ideal) S_ .f32 0x7F800000#32) ⊤ (fun p => top_bits) _ _ r).trans hc
  refine agree _ _ (fun u => weights_pos _ u) _ (places_bijective x0 x1 x2 x3 r) (descending x0 x1 x2 x3 h r) kept kept_pos kept_lt_one _ _
    (fun u => least_le _ u) (fun u => le_greatest _ u) cut hle hat j ?_
  rw [fn_eq, part4_at, hk, greatestOf_at x0 x1 x2 x3 h r, leastOf_at x0 x1 x2 x3 h r, logit_at x0 x1 x2 x3 h r, one_bits, sixteen_bits,
    Ideal.div_coe (by norm_num)] at hon
  rcases or_one _ _ hon with e | e
  · exact Or.inl (EReal.coe_lt_coe_iff.1 ((Ideal.cmp_olt_eq_one _ _).1 e))
  · refine Or.inr ?_
    have e' := (Ideal.cmp_ogt_eq_one _ _).1 e
    rw [← EReal.coe_one, ← EReal.coe_sub, ← EReal.coe_add, ← EReal.coe_mul, ← EReal.coe_add, mul_one_div] at e'
    exact EReal.coe_lt_coe_iff.1 e'

end Cert.On_clear_of_the_cut.Filtered

end
-- ==== Proof.Scores.lean ====
/- The bias scores of the problem, written once by coordinates over the extended reals. Both programs are shown to compute
   these functions: the kernel in ScoresKernel.lean, the reference in ScoresReference.lean. Here `b` counts the 64 rows of the
   batch, `k` the 32 neighbours kept for each row, `d` and `j` the 768 embedding coordinates, `h` the 256 hidden units and `p`
   the 3 mixing coefficients. -/
module

public import Idealize.ShloMosaic.Lib.Pointwise

@[expose] public section

noncomputable section

namespace Cert.Scores

open Idealize.ShloMosaic

/-- The row of the flat table of gathered neighbours that holds neighbour `k` of batch row `b`. -/
def row (b : Fin 64) (k : Fin 32) : Fin 2048 := ⟨b.val * 32 + k.val, by omega⟩

/-- The left half of the coordinates of the concatenated query and neighbour. -/
def lower (j : Fin 768) : Fin 1536 := ⟨j.val, by omega⟩

/-- The right half of the coordinates of the concatenated query and neighbour. -/
def upper (j : Fin 768) : Fin 1536 := ⟨768 + j.val, by omega⟩

/-- The skew-symmetric part of the raw rotation weights. -/
def skew (w : Fin 768 → Fin 768 → EReal) (a b : Fin 768) : EReal :=
  Ideal.ofBits .f32 0x3F000000#32 * (w a b - w b a)

/-- A vector turned by a matrix: the coordinate `d` of `θ x`. -/
def turn (θ : Fin 768 → Fin 768 → EReal) (x : Fin 768 → EReal) (d : Fin 768) : EReal := ∑ j, x j * θ d j

/-- The inner product of two embeddings. -/
def pairing (x y : Fin 768 → EReal) : EReal := ∑ d, x d * y d

/-- The hidden unit `h` before the rectifier: the query through the upper rows of the weights, the neighbour through the
    lower ones, and the offset. -/
def preact (s e : Fin 768 → EReal) (W1 : Fin 1536 → Fin 256 → EReal) (b1 : Fin 256 → EReal) (h : Fin 256) : EReal :=
  ∑ j, s j * W1 (lower j) h + ∑ j, e j * W1 (upper j) h + b1 h

/-- The mixing coefficient `p` of a query and a neighbour. -/
def beta (s e : Fin 768 → EReal) (W1 : Fin 1536 → Fin 256 → EReal) (b1 : Fin 256 → EReal) (W2 : Fin 256 → Fin 3 → EReal)
    (b2 : Fin 3 → EReal) (p : Fin 3) : EReal :=
  ∑ h, max (preact s e W1 b1 h) 0 * W2 h p + b2 p

/-- The raw score of a query and a neighbour: three bilinear terms weighed by the three coefficients. -/
def raw (s e : Fin 768 → EReal) (θ : Fin 768 → Fin 768 → EReal) (W1 : Fin 1536 → Fin 256 → EReal) (b1 : Fin 256 → EReal)
    (W2 : Fin 256 → Fin 3 → EReal) (b2 : Fin 3 → EReal) : EReal :=
  beta s e W1 b1 W2 b2 0 * pairing (turn θ e) s + beta s e W1 b1 W2 b2 1 * pairing (turn θ s) e
    + beta s e W1 b1 W2 b2 2 * pairing (turn θ e) e

/-- The mean of 32 scores. -/
def mean (x : Fin 32 → EReal) : EReal := Ideal.div (∑ k, x k) (Ideal.ofBits .f32 0x42000000#32)

/-- The mean square distance of 32 scores from their mean. -/
def spread (x : Fin 32 → EReal) : EReal :=
  Ideal.div (∑ k, (x k - mean x) * (x k - mean x)) (Ideal.ofBits .f32 0x42000000#32)

/-- 32 scores standardised: distance from the mean over the standard deviation, kept off zero. -/
def standard (x : Fin 32 → EReal) (k : Fin 32) : EReal :=
  Ideal.div (x k - mean x) (Ideal.sqrt (spread x) + Ideal.ofBits .f32 0x358637BD#32)

end Cert.Scores

end
-- ==== Proof.Rows.lean ====
/- What the fetching call is to return: row `r` of the result is the row of the table that the `r`-th index names, the indices
   read in row-major order. Only indices inside the table are asked about; `named` is stated with a bound so that it is a
   row number whatever the index. -/
module

public import proofs.«01_k».proof.Defs
public import proofs.«01_k».proof.Proof.Scores

@[expose] public section

noncomputable section

namespace Cert.Rows

open Idealize.ShloMosaic

/-- The place of the `r`-th index in the `[64, 32]` array. -/
def place (r : Fin 2048) : (⟨2, ![64, 32]⟩ : Shape).Idx :=
  ix2 (⟨r.val / 32, by have := r.isLt; omega⟩ : Fin 64) (⟨r.val % 32, by omega⟩ : Fin 32)

/-- The row that an index names, at most the last one. -/
def named (w : BitVec 32) : Fin 100000 := ⟨min w.toNat 99999, by omega⟩

/-- Entry `j` of row `r` of the result. -/
def taken {α : Type} (ids : (⟨2, ![64, 32]⟩ : Shape).Idx → BitVec 32) (table : (⟨2, ![100000, 768]⟩ : Shape).Idx → α)
    (r : Fin 2048) (j : Fin 768) : α :=
  table (ix2 (named (ids (place r))) j)

/-- An index within the range that the claims assume. -/
def Inside (w : BitVec 32) : Prop := IntOp.cmpi .sge w 0#32 = 1#1 ∧ IntOp.cmpi .slt w 100000#32 = 1#1

/-- Such an index is a row number of the table. -/
theorem Inside.lt {w : BitVec 32} (h : Inside w) : w.toNat < 100000 := by
  have ofBool_eq_one (p : Bool) : (BitVec.ofBool p = 1#1) ↔ p = true := by cases p <;> decide
  obtain ⟨h0, h1⟩ := h
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  have := w.isLt
  split at h0 <;> split at h1 <;> omega

/-- Such an index is not negative, -/
theorem Inside.not_negative {w : BitVec 32} (h : Inside w) : IntOp.cmpi .slt w 0#32 = 0#1 := by
  have hw := h.lt
  have e : decide (w.toInt < (0#32).toInt) = false := decide_eq_false (by
    rw [BitVec.toInt_eq_toNat_cond, if_pos (by omega)]; simp)
  simp only [IntOp.cmpi, BitVec.slt_eq_decide, e]
  rfl

/-- and at most the last row number. -/
theorem Inside.at_most {w : BitVec 32} (h : Inside w) : IntOp.cmpi .sle w 99999#32 = 1#1 := by
  have hw := h.lt
  have e : decide (w.toInt ≤ (99999#32).toInt) = true := decide_eq_true (by
    rw [BitVec.toInt_eq_toNat_cond, if_pos (by omega)]
    have : (99999#32).toInt = 99999 := by decide
    omega)
  simp only [IntOp.cmpi, BitVec.sle_eq_decide, e]
  rfl

/-- Two one-bit words with conjunction one are both one. -/
theorem andi_one (a b : BitVec 1) : IntOp.andi a b = 1#1 ↔ a = 1#1 ∧ b = 1#1 := by revert a b; decide

end Cert.Rows

end
-- ==== Proof.FilterRun.lean ====
/- The filter call's result array after its run, and that the reference leaves the same entries wherever the claim compares them. -/
module

public import proofs.«01_k».proof.Defs
public import proofs.«01_k».proof.Proof.FilterBracket
public import proofs.«01_k».proof.Proof.FilterCut
public import proofs.«01_k».proof.Proof.Rows
public import proofs.«01_k».proof.Proof.Gen.Pre_named_and_finite
public import Idealize.ShloMosaic.Lib.Claim
public import Idealize.ShloMosaic.Lib.Pipeline.ValueKit

@[expose] public section

set_option maxRecDepth 16384

noncomputable section

namespace Cert.Kernel2Ideal.Filtered

open Cert.Kernel2Ideal Cert.Kernel2Ideal.Gen Idealize.ShloMosaic Idealize.ShloMosaic.TcCoe Idealize.SL.Sem Filter01

/-! ## From the precondition -/

theorem real_of_finite (x : EReal) (h : Ideal.cmp .olt (FloatOps.hostAbsf (F := Ideal) (φ := .f32) x) (Ideal.ofBits .f32 0x7F800000#32) = 1#1) :
    x = (x.toReal : EReal) := by
  replace h := (Ideal.cmp_olt_eq_one _ _).1 h
  rw [top_bits] at h
  refine (EReal.coe_toReal (fun e => ?_) (fun e => ?_)).symm
  · subst e; exact absurd h (by decide)
  · subst e; exact absurd h (by decide)

variable (m : (ℓ : Loc nD τ sig) → Buf (Elt Ideal) ℓ)

theorem fine_of_pre (h : Cert.Pre_Kernel2Ideal_named_and_finite m) (c : Dev nD) :
    Fine (R := 64) (N := 100000) (m ((c : Thread nD τ).loc main_arg0)) (m ((c : Thread nD τ).loc main_arg1))
      (m ((c : Thread nD τ).loc main_arg2)) (m ((c : Thread nD τ).loc main_arg3)) where
  base p := real_of_finite _ (congrFun (h c).1 p)
  score p := real_of_finite _ (congrFun (h c).2.1 p)
  name p := Cert.Rows.Inside.lt ((Cert.Rows.andi_one _ _).1 (congrFun (h c).2.2.1 p))
  previous p := Cert.Rows.Inside.lt ((Cert.Rows.andi_one _ _).1 (congrFun (h c).2.2.2 p))

/-! ## The blocks -/

/-- The grid point as a number. -/
def point (t : Fin cfg0.N) : ℕ := (grid0.coords t 0).val

theorem point_lt (t : Fin cfg0.N) : point t < 8 := (grid0.coords t 0).isLt

/-- The array's row that is row `a` of the blocks at `t`. -/
def rowAt (t : Fin cfg0.N) (a : Fin 8) : Fin 64 := ⟨8 * point t + a.val, by have := point_lt t; have := a.isLt; omega⟩

theorem index_eq (t : Fin cfg0.N) : (BitVec.ofNat 32 (grid0.coords t 0).val).toNat = point t := by
  have := point_lt t
  unfold point at *
  rw [BitVec.toNat_ofNat]
  omega

theorem block_0 (c : Dev nD) (t : Fin cfg0.N) (a : Fin 8) (k : Fin 100000) :
    iblk m c 0 t (ix2 a k) = m ((c : Thread nD τ).loc main_arg0) (ix2 (rowAt t a) k) := by
  show V m c main_arg0 _ = V m c main_arg0 _
  congr 1
  funext d
  refine Fin.ext ?_
  match d with
  | ⟨0, _⟩ =>
    show (BitVec.ofNat 32 (grid0.coords t 0).val).toNat * 8 + 1 * a.val = 8 * point t + a.val
    rw [index_eq]; omega
  | ⟨1, _⟩ => show 0 * 100000 + 1 * k.val = k.val; omega

theorem block_1 (c : Dev nD) (t : Fin cfg0.N) (a : Fin 8) (k : Fin 32) :
    iblk m c 1 t (ix2 a k) = m ((c : Thread nD τ).loc main_arg1) (ix2 (rowAt t a) k) := by
  show V m c main_arg1 _ = V m c main_arg1 _
  congr 1
  funext d
  refine Fin.ext ?_
  match d with
  | ⟨0, _⟩ =>
    show (BitVec.ofNat 32 (grid0.coords t 0).val).toNat * 8 + 1 * a.val = 8 * point t + a.val
    rw [index_eq]; omega
  | ⟨1, _⟩ => show 0 * 32 + 1 * k.val = k.val; omega

theorem block_2 (c : Dev nD) (t : Fin cfg0.N) (a : Fin 8) (k : Fin 32) :
    iblk m c 2 t (ix2 a k) = m ((c : Thread nD τ).loc main_arg2) (ix2 (rowAt t a) k) := by
  show V m c main_arg2 _ = V m c main_arg2 _
  congr 1
  funext d
  refine Fin.ext ?_
  match d with
  | ⟨0, _⟩ =>
    show (BitVec.ofNat 32 (grid0.coords t 0).val).toNat * 8 + 1 * a.val = 8 * point t + a.val
    rw [index_eq]; omega
  | ⟨1, _⟩ => show 0 * 32 + 1 * k.val = k.val; omega

theorem block_3 (c : Dev nD) (t : Fin cfg0.N) (a : Fin 8) (k : Fin 32) :
    iblk m c 3 t (ix2 a k) = m ((c : Thread nD τ).loc main_arg3) (ix2 (rowAt t a) k) := by
  show V m c main_arg3 _ = V m c main_arg3 _
  congr 1
  funext d
  refine Fin.ext ?_
  match d with
  | ⟨0, _⟩ =>
    show (BitVec.ofNat 32 (grid0.coords t 0).val).toNat * 8 + 1 * a.val = 8 * point t + a.val
    rw [index_eq]; omega
  | ⟨1, _⟩ => show 0 * 32 + 1 * k.val = k.val; omega

/-- A block of real arrays is of real entries. -/
theorem block_fine (h : Cert.Pre_Kernel2Ideal_named_and_finite m) (c : Dev nD) (t : Fin cfg0.N) :
    Fine (R := 8) (N := 100000) (iblk m c 0 t) (iblk m c 1 t) (iblk m c 2 t) (iblk m c 3 t) where
  base p := by
    have e := (congrArg (iblk m c 0 t) (eq_ix2 (n0 := 8) (n1 := 100000) p)).trans (block_0 m c t _ _)
    rw [e]; exact (fine_of_pre m h c).base _
  score p := by
    have e := (congrArg (iblk m c 1 t) (eq_ix2 (n0 := 8) (n1 := 32) p)).trans (block_1 m c t _ _)
    rw [e]; exact (fine_of_pre m h c).score _
  name p := by
    have e := (congrArg (iblk m c 2 t) (eq_ix2 (n0 := 8) (n1 := 32) p)).trans (block_2 m c t _ _)
    rw [e]; exact (fine_of_pre m h c).name _
  previous p := by
    have e := (congrArg (iblk m c 3 t) (eq_ix2 (n0 := 8) (n1 := 32) p)).trans (block_3 m c t _ _)
    rw [e]; exact (fine_of_pre m h c).previous _

/-- The logits of a row of the arrays. -/
def rowOf (c : Dev nD) (r : Fin 64) : Fin 100000 → ℝ :=
  rowLogit (R := 64) (N := 100000) (m ((c : Thread nD τ).loc main_arg0)) (m ((c : Thread nD τ).loc main_arg1))
    (m ((c : Thread nD τ).loc main_arg2)) (m ((c : Thread nD τ).loc main_arg3)) r

theorem rowOf_block (c : Dev nD) (t : Fin cfg0.N) (a : Fin 8) :
    rowLogit (R := 8) (N := 100000) (iblk m c 0 t) (iblk m c 1 t) (iblk m c 2 t) (iblk m c 3 t) a = rowOf m c (rowAt t a) := by
  funext k
  unfold rowOf rowLogit
  rw [block_0 m c t a k, funext fun k => block_2 m c t a k, funext fun k => block_3 m c t a k,
    funext fun k => congrArg EReal.toReal (block_1 m c t a k)]

/-! ## The result array -/

open Classical in
/-- Entry `k` of a row of the result, from the row's logits. -/
def entryOf (x : Fin 100000 → ℝ) (k : Fin 100000) : EReal :=
  if ((narrow (Over x))^[8] (least x - 1, greatest x)).2 ≤ x k then (x k : EReal) else (sunk : EReal)

/-- Entry `(r, k)` of the result. -/
def entry (c : Dev nD) (r : Fin 64) (k : Fin 100000) : EReal := entryOf (rowOf m c r) k

/-- What the result array is to hold. -/
def stored (c : Dev nD) : Buf (Elt Ideal) ((c : Thread nD τ).loc main_v0) := fun i => entry m c ⟨(i 0).val, (i 0).isLt⟩ ⟨(i 1).val, (i 1).isLt⟩

theorem stored_at (c : Dev nD) (i : S64x100000.Idx) (r : Fin 64) (k : Fin 100000) (hr : (i 0).val = r.val) (hk : (i 1).val = k.val) :
    stored m c i = entry m c r k := by
  obtain rfl : r = ⟨(i 0).val, (i 0).isLt⟩ := Fin.ext hr.symm
  obtain rfl : k = ⟨(i 1).val, (i 1).isLt⟩ := Fin.ext hk.symm
  rfl

theorem block_stored (h : Cert.Pre_Kernel2Ideal_named_and_finite m) (c : Dev nD) (t : Fin cfg0.N) (a : Fin 8) (k : Fin 100000) :
    filtered (iblk m c 0 t) (iblk m c 1 t) (iblk m c 2 t) (iblk m c 3 t) (ix2 a k) = entry m c (rowAt t a) k := by
  rw [filtered_at _ _ _ _ (block_fine m h c t) a k, rowOf_block]
  rfl

/-- The result array after the run. -/
theorem array_eq (h : Cert.Pre_Kernel2Ideal_named_and_finite m) (c : Dev nD) : (dats m 0 c).arrAt 4 cfg0.N = stored m c := by
  refine (dats m 0 c).arrAt_eq_of_emb 4 _ (fun t hf y => ?_) (fun i => ?_)
  · blk_simp
    rw [after_4, left_eq]
    change S8x100000.Idx at y
    have e := (congrArg (filtered (iblk m c 0 t) (iblk m c 1 t) (iblk m c 2 t) (iblk m c 3 t)) (eq_ix2 (n0 := 8) (n1 := 100000) y)).trans
      (block_stored m h c t _ _)
    refine e.trans (stored_at m c _ _ _ ?_ ?_).symm
    · show (BitVec.ofNat 32 (grid0.coords t 0).val).toNat * 8 + 1 * (y 0).val = 8 * point t + (y 0).val
      rw [index_eq]; omega
    · show 0 * 100000 + 1 * (y 1).val = (y 1).val
      omega
  · change S64x100000.Idx at i
    have hi : (i 0).val < 64 := (i 0).isLt
    refine ⟨⟨(i 0).val / 8, by show (i 0).val / 8 < 8; omega⟩, flush0_4 _, ?_⟩
    refine Finset.mem_map.mpr ⟨ix2 (⟨(i 0).val % 8, by omega⟩ : Fin 8) (⟨(i 1).val, (i 1).isLt⟩ : Fin 100000), Finset.mem_univ _, ?_⟩
    funext d
    refine Fin.ext ?_
    match d with
    | ⟨0, _⟩ =>
      show (BitVec.ofNat 32 (grid0.coords _ 0).val).toNat * 8 + 1 * ((i 0).val % 8) = (i 0).val
      rw [index_eq]
      unfold point
      have e := Pipeline.Grid.coords_val (G := grid0) (⟨(i 0).val / 8, by show (i 0).val / 8 < 8; omega⟩ : Fin grid0.N) 0 (S := 1) (B := 8) (by decide) rfl
      rw [e]
      show (i 0).val / 8 / 1 % 8 * 8 + 1 * ((i 0).val % 8) = (i 0).val
      omega
    | ⟨1, _⟩ =>
      show 0 * 100000 + 1 * (i 1).val = (i 1).val
      omega

/-! ## The comparison -/

section
variable (x0 : (⟨S64x100000, .f32⟩ : BufTy).Contents (Elt Ideal)) (x1 : (⟨S64x32, .f32⟩ : BufTy).Contents (Elt Ideal))
  (x2 x3 : (⟨S64x32, .i32⟩ : BufTy).Contents (Elt Ideal)) (h : Fine (R := 64) (N := 100000) x0 x1 x2 x3)

include h in
theorem agrees_place (r : Fin 64) (j : Fin 100000)
    (hon : Cert.On_clear_of_the_cut.fn (F := Ideal) x0 x1 x2 x3 (ix2 r (Cert.Reference2Ideal.Filtered.places x0 x1 x2 x3 r j)) = 1#1) :
    Cert.Reference2Ideal.Read.val_main_v82 (F := Ideal) x0 x1 x2 x3 (ix2 r (Cert.Reference2Ideal.Filtered.places x0 x1 x2 x3 r j))
      = entryOf (rowLogit (R := 64) (N := 100000) x0 x1 x2 x3 r) (Cert.Reference2Ideal.Filtered.places x0 x1 x2 x3 r j) := by
  have hk := Cert.On_clear_of_the_cut.Filtered.kept_at x0 x1 x2 x3 h r j hon
  refine (Cert.Reference2Ideal.Filtered.result_at x0 x1 x2 x3 h r j).trans ?_
  generalize rowLogit (R := 64) (N := 100000) x0 x1 x2 x3 r = x at hk ⊢
  generalize Cert.Reference2Ideal.Filtered.places x0 x1 x2 x3 r = σ at hk ⊢
  unfold entryOf
  by_cases hd : Dropped (weights x) σ kept j
  · rw [if_pos hd]
    exact (if_neg fun hle => hk.1 hle hd).symm
  · rw [if_neg hd]
    exact (if_pos (hk.2 hd)).symm

include h in
theorem agrees_at (r : Fin 64) (k : Fin 100000) (hon : Cert.On_clear_of_the_cut.fn (F := Ideal) x0 x1 x2 x3 (ix2 r k) = 1#1) :
    Cert.Reference2Ideal.Read.val_main_v82 (F := Ideal) x0 x1 x2 x3 (ix2 r k) = entryOf (rowLogit (R := 64) (N := 100000) x0 x1 x2 x3 r) k := by
  obtain ⟨j, rfl⟩ := (Cert.Reference2Ideal.Filtered.places_bijective x0 x1 x2 x3 r).2 k
  exact agrees_place x0 x1 x2 x3 h r j hon

end

/-- Where the restriction holds, the reference's result is the kernel's. -/
theorem agrees (h : Cert.Pre_Kernel2Ideal_named_and_finite m) (c : Dev nD) (i : S64x100000.Idx)
    (hon : Cert.On_clear_of_the_cut.fn (F := Ideal) (m ((c : Thread nD τ).loc main_arg0)) (m ((c : Thread nD τ).loc main_arg1))
      (m ((c : Thread nD τ).loc main_arg2)) (m ((c : Thread nD τ).loc main_arg3)) i = 1#1) :
    Cert.Reference2Ideal.Read.val_main_v82 (F := Ideal) (m ((c : Thread nD τ).loc main_arg0)) (m ((c : Thread nD τ).loc main_arg1))
      (m ((c : Thread nD τ).loc main_arg2)) (m ((c : Thread nD τ).loc main_arg3)) i = stored m c i := by
  obtain ⟨r, k, rfl⟩ : ∃ (r : Fin 64) (k : Fin 100000), i = ix2 r k := ⟨_, _, eq_ix2 (n0 := 64) (n1 := 100000) i⟩
  exact (agrees_at _ _ _ _ (fine_of_pre m h c) r k hon).trans (stored_at m c (ix2 r k) r k rfl rfl).symm

end Cert.Kernel2Ideal.Filtered

end
-- ==== Proof.PicksFrameIdeal.lean ====
/- The selection call of the idealised kernel: what its body leaves in the result's block, the body's triple, the run and the frame. The body reads its
   block, narrows a threshold in a loop of eight rounds, takes the places above it in a loop of thirty-two picks, and stores the picks. Neither
   loop touches memory. -/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel3Ideal.Picked

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources that the program's assertions speak of. -/
abbrev World (F : FTy → Type) [FloatOps F] := MT nD τ sig Unit (Elt F) ℕ (UR sig nD τ) ℕ

variable (m : (ℓ : Loc nD τ sig) → Buf (Elt F) ℓ) (ρ : Dev nD → PrngReg)

/-! ## What the body computes -/

/-- One round of the threshold search on the bracket `acc`. -/
def round (v0 : Vec F S8x100000 .f32) (acc : FVec F S8x1 .f32 × FVec F S8x1 .f32) : FVec F S8x1 .f32 × FVec F S8x1 .f32 :=
  let v8 := k0_pay3 (F := F)
  let arg4 := acc.1
  let arg5 := acc.2
  let v24 := k0_pay14 arg4 arg5
  let v54 := k0_pay19 v0 v8 arg4 arg5
  let v56 := k0_pay20 v0 v8 arg4 arg5
  let v59 := k0_pay21 arg4 arg5
  let v66 := k0_pay22 v0 arg4 arg5
  let v67 := k0_pay23 v8
  let v102 := k0_pay29 v0 v8 arg4 v24 v54 v59 v66 v67
  let v104 := k0_pay30 v0 v8 arg4 arg5 v24 v56 v59 v66 v67
  let v107 := k0_pay31 arg4 v24
  let v114 := k0_pay32 v0 arg4 v24
  let v115 := k0_pay33 v8
  let v150 := k0_pay39 v0 v8 arg4 v24 v102 v107 v114 v115
  let v152 := k0_pay40 v0 v8 arg4 arg5 v24 v104 v107 v114 v115
  let v155 := k0_pay41 arg4 v24
  let v162 := k0_pay42 v0 arg4 v24
  let v163 := k0_pay43 v8
  let v198 := k0_pay49 v0 v8 arg4 v24 v150 v155 v162 v163
  let v200 := k0_pay50 v0 v8 arg4 arg5 v24 v152 v155 v162 v163
  let v203 := k0_pay51 arg4 v24
  let v210 := k0_pay52 v0 arg4 v24
  let v211 := k0_pay53 v8
  let v246 := k0_pay59 v0 v8 arg4 v24 v198 v203 v210 v211
  let v248 := k0_pay60 v0 v8 arg4 arg5 v24 v200 v203 v210 v211
  let v251 := k0_pay61 arg4 v24
  let v258 := k0_pay62 v0 arg4 v24
  let v259 := k0_pay63 v8
  (k0_pay7 v0 arg4 v24 v246 v251 v258 v259, k0_pay8 v0 arg4 arg5 v24 v248 v251 v258 v259)

/-- The bracket after the eight rounds. -/
def bracket (v0 : Vec F S8x100000 .f32) : FVec F S8x1 .f32 × FVec F S8x1 .f32 :=
  Scf.fold (n := k0_t1_loop.trips) (fun _ acc => round v0 acc) (k0_pay1 v0, k0_pay2 v0)

/-- One pick: the least place left goes to its column of the result and out of the places left. -/
def pick (k : Fin k0_t2_loop.trips) (acc : IVec S8x100000 32 × IVec S8x32 32) : IVec S8x100000 32 × IVec S8x32 32 :=
  (k0_pay13 acc.1, k0_pay12 k acc.1 acc.2)

/-- The places left and the result after the thirty-two picks. -/
def picks (v0 : Vec F S8x100000 .f32) (hi : FVec F S8x1 .f32) : IVec S8x100000 32 × IVec S8x32 32 :=
  Scf.fold (n := k0_t2_loop.trips) pick (k0_pay9 v0 hi, k0_pay10)

/-- The whole block of the logits, and of the result. -/
abbrev wholeIn : Rect S8x100000 := Rect.unit (s := S8x100000) ![0, 0] S8x100000.size inb_S8x100000_S8x100000_0_0
abbrev wholeOut : Rect S8x32 := Rect.unit (s := S8x32) ![0, 0] S8x32.size inb_S8x32_S8x32_0_0

/-- The block that the body stores. -/
def picked (x0 : Vec F S8x100000 .f32) : IVec S8x32 32 := (picks (View.ld x0 wholeIn) (bracket (View.ld x0 wholeIn)).2).2

/-- The result's staging buffer after the body. -/
def left (x0 : Vec F S8x100000 .f32) : Vec F S8x32 .i32 := View.canon [⟨wholeOut, picked x0⟩]

/-- The one store covers the buffer. -/
theorem covers (p : Vec F S8x32 .i32) (y : S8x32.Idx) :
    ∃ pc ∈ ([⟨wholeOut, p⟩] : List (View.Piece (Elt F) S8x32 .i32)), y ∈ pc.1.set :=
  View.cover_of_tiled [⟨wholeOut, p⟩] S8x32.size (by rfl) y

/-! ## The body's triple -/

section
variable (i : grid0.Coords) (arg1 : Memref sig .tc .vmem S8x100000 .f32) (harg1 : arg1.IsWhole) (arg2 : Memref sig .tc .vmem S8x32 .i32)
  (harg2 : arg2.IsWhole) (v0 : Vec F S8x100000 .f32)

/-- The search's region touches no memory: it returns the next bracket. -/
theorem search_region : k0_t1_body i arg1 harg1 arg2 harg2 v0 = fun _ acc => .ret (round v0 acc) := by
  unfold k0_t1_body
  simp only [k0_part1_eq_skeleton, k0_part2_eq_skeleton, k0_part3_eq_skeleton, k0_part4_eq_skeleton, k0_part5_eq_skeleton]
  rfl

/-- So the search returns the last bracket. -/
theorem search_pure :
    Scf.Loop.for k0_t1_loop k0_t1_ok (k0_pay1 v0, k0_pay2 v0) (k0_t1_body i arg1 harg1 arg2 harg2 v0) = .ret (bracket v0) := by
  rw [search_region]
  exact Scf.for_pure _ _ _ _ _ _ (fun _ acc => round v0 acc) fun _ _ => rfl

/-- The picks' loop returns the picks. -/
theorem picks_pure (hi : FVec F S8x1 .f32) :
    Scf.Loop.for k0_t2_loop k0_t2_ok (k0_pay9 v0 hi, k0_pay10) (k0_t2_body (F := F) i arg1 harg1 arg2 harg2) = .ret (picks v0 hi) :=
  Scf.for_pure _ _ _ _ _ _ (fun k acc => pick k acc) fun _ _ => rfl

end

set_option maxHeartbeats 4000000 in
/-- The body on whole staging buffers: the input stays, the result's buffer ends at `left`. -/
theorem body_run (c : Dev nD) (E : Set ℕ) (i : grid0.Coords) (arg1 : Memref sig .tc .vmem S8x100000 .f32) (harg1 : arg1.IsWhole)
    (arg2 : Memref sig .tc .vmem S8x32 .i32) (harg2 : arg2.IsWhole) (x0 : Vec F S8x100000 .f32) (K : PUnit → sProp (World F)) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (left x0)) -∗ K ⟨⟩))
      ⊢ wp frame (wpE (defs₀ (F := F)) Variants.none c none) E (cc0__topk_body i arg1 harg1 arg2 harg2) K := by
  simp only [cc0__topk_body_eq_skeleton]; unfold cc0__topk_body_skel
  simp only [search_pure, picks_pure]
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers _)

/-! ## The pipeline's proof data -/

/-- The arrays as the region finds them, the input's buffer at its block after the body, the result's at `left` of the block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => left (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = left (iblk m c 0 t) := by dsimp only [dats]

theorem before_0 (c : Dev nD) (t : Fin cfg0.N) (d) : (dats m 0 c).before 0 t d = iblk m c 0 t :=
  before0_0_of m (dats m 0 c) (A_eq m c 0) (after_0 m c) t d

/-- What the body is called with at point `t`. -/
def pre (c : Dev nD) (t : Fin cfg0.N) : sProp (World F) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What it returns. -/
def post (c : Dev nD) (t : Fin cfg0.N) : sProp (World F) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point. -/
theorem body_at (c : Dev nD) (t : Fin cfg0.N) :
    pre m c t ⊢ wp frame (wpE (defs₀ (F := F)) Variants.none c none) Set.univ (bodyAt0 t) (fun _ => post m c t) := by
  unfold pre post bodyAt0
  simp only [before_0]
  rw [show (dats m 0 c).Φ t.succ = (dats m 0 c).Φ t.castSucc from rfl,
    show (dats m 0 c).owesAt () t.succ = (dats m 0 c).owesAt () t.castSucc from rfl, after_0, after_1]
  iintro ⟨HΦ, Ho, ⟨%d0, H0⟩, ⟨%d1, H1⟩⟩
  iapply (body_run c Set.univ _ _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body table's row is the body at the point's buffers. -/
theorem row_is_body (t : Fin cfg0.N) :
    defs₀ (F := F) .tc cfg0.body (cfg0.bodyArgs t (cfg0.slots t)) = bodyAt0 t := by
  unfold defs₀; rw [Defs.onTc_tc]

/-- The obligation at every point. -/
theorem obligation (c : Dev nD) : BodyObligation (dats (F := F) m 0 c) (defs₀ (F := F)) Variants.none () Set.univ := fun t => by
  rw [bigSep_W0, bigSep_W0, row_is_body]
  exact triple_restated (body_at m c t) rfl .rfl fun _ => .rfl

/-! ## The run and the frame -/

set_option backward.isDefEq.respectTransparency.types false in
set_option maxHeartbeats 800000 in
/-- The run: every array as the proof data has it, every counter at zero. -/
theorem run_still : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The run without the counters. -/
theorem run : θ_run defs (onTc (τ := τ) (main (F := F))) (s₀ m ρ) (Pipeline.FramePost cfgs (dats m) 0 (V m)) :=
  (θ_run defs _ _).mono (fun _ h => h.1) (run_still m ρ)

/-- The argument ends unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) (run m ρ)) ((θ_run defs _ _).mono (fun _ h => h.2) (run_still m ρ))

end Cert.Kernel3Ideal.Picked

end
-- ==== Proof.PicksMath.lean ====
/- The mathematics of the selection call, one row at a time: when the thirty-second greatest logit stands clear of the next, the entries above the
   narrowed threshold are the thirty-two greatest. -/
module

public import proofs.«01_k».proof.Proof.FilterMath

@[expose] public section

noncomputable section

namespace Picks01

open Filter01 Classical

variable {n : ℕ} (x : Fin n → ℝ)

/-- The mass at weight one is a count. -/
theorem mass_one (t : ℝ) : mass x (fun _ => 1) t = ((Finset.univ.filter fun u => t < x u).card : ℝ) := by
  unfold mass
  rw [Finset.card_filter, Nat.cast_sum]
  exact Finset.sum_congr rfl fun u _ => by split_ifs <;> simp

/-- More than `K` entries lie above the threshold. -/
def Over (K : ℕ) (t : ℝ) : Prop := (K : ℝ) + 1 / 2 < mass x (fun _ => 1) t

theorem over_iff (K : ℕ) (t : ℝ) : Over x K t ↔ K < (Finset.univ.filter fun u => t < x u).card := by
  unfold Over
  rw [mass_one]
  constructor
  · intro h
    by_contra hn
    have : ((Finset.univ.filter fun u => t < x u).card : ℝ) ≤ K := by exact_mod_cast not_lt.1 hn
    linarith
  · intro h
    have : (K : ℝ) + 1 ≤ ((Finset.univ.filter fun u => t < x u).card : ℝ) := by exact_mod_cast h
    linarith

/-- With the greatest `K` entries clear of the next by the slack, they are the ones above the bracket's upper end. -/
theorem above_iff (σ : Fin n → Fin n) (hσ : Function.Bijective σ) (hs : ∀ i j : Fin n, i < j → x (σ j) ≤ x (σ i)) (mn mx : ℝ) (hmn : ∀ u, mn ≤ x u)
    (hmx : ∀ u, x u ≤ mx) (K : ℕ) (last next : Fin n) (hlast : last.val + 1 = K) (hnext : next.val = K)
    (hclear : x (σ next) + (mx - mn + 1) / 16 ^ 8 < x (σ last)) (c : Fin n) :
    ((narrow (Over x K))^[8] (mn - 1, mx)).2 < x c ↔ ∃ j : Fin n, j.val < K ∧ σ j = c := by
  have hKn : K < n := hnext ▸ next.isLt
  have h0 : Over x K (mn - 1) := by
    rw [over_iff, Finset.filter_true_of_mem fun u _ => by have := hmn u; linarith, Finset.card_univ, Fintype.card_fin]
    exact hKn
  have h1 : ¬ Over x K mx := by
    rw [over_iff, Finset.filter_false_of_mem fun u _ => by have := hmx u; linarith, Finset.card_empty]
    exact Nat.not_lt_zero _
  obtain ⟨hlo, hhi, hw⟩ := narrow_iterate h0 h1 8
  generalize ((narrow (Over x K))^[8] (mn - 1, mx)).1 = lo at hlo hw
  generalize ((narrow (Over x K))^[8] (mn - 1, mx)).2 = hi at hhi hw ⊢
  rw [over_iff] at hlo hhi
  have hfirst : ((Finset.univ.filter fun j : Fin n => j.val < K).image σ).card = K := by
    rw [Finset.card_image_of_injective _ hσ.1]
    have e : (Finset.univ.filter fun j : Fin n => j.val < K) = Finset.Iio next := by
      ext j
      simp [Fin.lt_def, hnext]
    rw [e, Fin.card_Iio, hnext]
  have hnx : lo < x (σ next) := by
    by_contra hn
    refine absurd (Finset.card_le_card (?_ : (Finset.univ.filter fun u => lo < x u) ⊆ (Finset.univ.filter fun j : Fin n => j.val < K).image σ)) (by omega)
    intro u hu
    obtain ⟨j, rfl⟩ := hσ.2 u
    have hu' : lo < x (σ j) := (Finset.mem_filter.1 hu).2
    refine Finset.mem_image.2 ⟨j, Finset.mem_filter.2 ⟨Finset.mem_univ _, ?_⟩, rfl⟩
    by_contra hj
    rcases Nat.lt_or_ge K j.val with h | h
    · exact hn (hu'.trans_le (hs next j (Fin.lt_def.2 (by omega))))
    · obtain rfl : j = next := Fin.ext (by omega)
      exact hn hu'
  have hmm : 0 ≤ mx - mn + 1 := by have := hmn last; have := hmx last; linarith
  have hslack : (mx - (mn - 1)) / 17 ^ 8 ≤ (mx - mn + 1) / 16 ^ 8 := by
    rw [show mx - (mn - 1) = mx - mn + 1 by ring]
    exact div_le_div_of_nonneg_left hmm (by norm_num) (by norm_num)
  have hlt : hi < x (σ last) := by linarith
  have hfst : ∀ j : Fin n, j.val < K → hi < x (σ j) := fun j hj => by
    rcases Nat.lt_or_ge j.val last.val with h | h
    · exact hlt.trans_le (hs j last (Fin.lt_def.2 h))
    · obtain rfl : j = last := Fin.ext (by omega)
      exact hlt
  constructor
  · intro hc
    obtain ⟨j, rfl⟩ := hσ.2 c
    refine ⟨j, ?_, rfl⟩
    by_contra hj
    have hni : σ j ∉ (Finset.univ.filter fun j : Fin n => j.val < K).image σ := fun h => by
      obtain ⟨i, hi', e⟩ := Finset.mem_image.1 h
      exact hj (hσ.1 e ▸ (Finset.mem_filter.1 hi').2)
    refine absurd (Finset.card_le_card (?_ : insert (σ j) ((Finset.univ.filter fun j : Fin n => j.val < K).image σ) ⊆ Finset.univ.filter fun u => hi < x u)) ?_
    · intro u hu
      refine Finset.mem_filter.2 ⟨Finset.mem_univ _, ?_⟩
      rcases Finset.mem_insert.1 hu with rfl | hu
      · exact hc
      · obtain ⟨i, hi', rfl⟩ := Finset.mem_image.1 hu
        exact hfst i (Finset.mem_filter.1 hi').2
    · rw [Finset.card_insert_of_notMem hni, hfirst]
      omega
  · rintro ⟨j, hj, rfl⟩
    exact hfst j hj

end Picks01

end
-- ==== Proof.PicksOps.lean ====
/- Host operations and words that the selection call needs, at any sizes: the places of a top-k, a sort of rows of words, the least word of a row,
   and how repeated picks of the least place walk through a row's chosen places in order. -/
module

public import proofs.«01_k».proof.Proof.FilterOps
public import Idealize.ShloMosaic.Lib.SortNet.Extract

@[expose] public section

noncomputable section

namespace Picks01

open Idealize.ShloMosaic Filter01
open Idealize.ShloMosaic.Routing (shape0 shape1 shape2 shape3)

/-! ## The places of a top-k -/

section
variable {R N K : ℕ} {α : Type}

/-- The columns' numbers. -/
def columns (R N : ℕ) : IVec (shape2 R N) 32 := fun i => BitVec.ofNat 32 (i 1).val

/-- The order in which a top-k reads a row. -/
def places (gt : α → α → BitVec 1) (x : (shape2 R N).Idx → α) (r : Fin R) : Fin N → Fin N :=
  order (α := α) (β := BitVec 32) (fun l r => gt l.1 r.1) x (columns R N) r

theorem places_bijective (gt : α → α → BitVec 1) (x : (shape2 R N).Idx → α) (r : Fin R) : Function.Bijective (places gt x r) :=
  order_bijective (α := α) (β := BitVec 32) (fun l r => gt l.1 r.1) x (columns R N) r

theorem sorted_first {β : Type} (cmp : α × β → α × β → BitVec 1) (x : (shape2 R N).Idx → α) (y : (shape2 R N).Idx → β)
    (r : Fin R) (j : Fin N) : (Host.sort2 (shape2 R N) 1 cmp x y).1 (ix2 r j) = x (ix2 r (order cmp x y r j)) := by
  unfold Host.sort2
  rw [dif_pos (show 1 < (shape2 R N).rank from Nat.one_lt_two)]
  show x _ = _
  have e : ∀ k : Fin N, (ix2 r j).along (s := shape2 R N) ⟨1, Nat.one_lt_two⟩ k = ix2 r k := along_row r j
  refine (congrArg x (e _)).trans ?_
  refine congrArg x (congrArg (ix2 r) ?_)
  unfold order
  have e' : (fun k k' : Fin N => cmp (x ((ix2 r j).along (s := shape2 R N) ⟨1, Nat.one_lt_two⟩ k), y ((ix2 r j).along (s := shape2 R N) ⟨1, Nat.one_lt_two⟩ k))
      (x ((ix2 r j).along (s := shape2 R N) ⟨1, Nat.one_lt_two⟩ k'), y ((ix2 r j).along (s := shape2 R N) ⟨1, Nat.one_lt_two⟩ k')) == 1#1)
      = fun k k' => cmp (x (ix2 r k), y (ix2 r k)) (x (ix2 r k'), y (ix2 r k')) == 1#1 := by
    funext k k'
    rw [e k, e k']
  exact congrFun (congrArg sortedFrom e') j

theorem numbered : (fun i : (shape2 R N).Idx => if hd : 1 < (shape2 R N).rank then iotaInDim (shape2 R N) 32 ⟨1, hd⟩ i else 0#32) = columns R N := by
  funext i
  rw [dif_pos (show 1 < (shape2 R N).rank from Nat.one_lt_two)]
  rfl

theorem cut_at {β : Type} (y : (shape2 R N).Idx → β) (h : (shape2 R N).Slices (fun _ => 0) (shape2 R K)) (r : Fin R) (j : Fin K) (j' : Fin N)
    (hj : j'.val = j.val) : extractStridedSlice (shape2 R K) (fun _ => 0) y h (ix2 r j) = y (ix2 r j') := by
  unfold extractStridedSlice
  refine congrArg y (funext fun a => Fin.ext ?_)
  match a with
  | ⟨0, _⟩ => exact Nat.zero_add _
  | ⟨1, _⟩ => exact (Nat.zero_add _).trans hj.symm

/-- A top-k's indices are the first places of the order. -/
theorem topK_index (gt : α → α → BitVec 1) (x : (shape2 R N).Idx → α) (h : (shape2 R N).Slices (fun _ => 0) (shape2 R K)) (r : Fin R) (j : Fin K)
    (j' : Fin N) (hj : j'.val = j.val) : (Host.topK (shape2 R K) 1 gt x h).2 (ix2 r j) = BitVec.ofNat 32 (places gt x r j').val := by
  unfold Host.topK
  dsimp only
  rw [numbered, cut_at _ h r j j' hj, sorted_carried]
  rfl

/-- Its values are the entries at them. -/
theorem topK_value (gt : α → α → BitVec 1) (x : (shape2 R N).Idx → α) (h : (shape2 R N).Slices (fun _ => 0) (shape2 R K)) (r : Fin R) (j : Fin K)
    (j' : Fin N) (hj : j'.val = j.val) : (Host.topK (shape2 R K) 1 gt x h).1 (ix2 r j) = x (ix2 r (places gt x r j')) := by
  unfold Host.topK
  dsimp only
  rw [numbered, cut_at _ h r j j' hj, sorted_first]
  rfl

/-- A row of real numbers is read from the greatest to the least. -/
theorem places_descending (x : FVec Ideal (shape2 R N) .f32) (r : Fin R) (f : Fin N → ℝ) (hf : ∀ k, x (ix2 r k) = (f k : EReal)) (i j : Fin N) (hij : i < j) :
    f (places (FloatOps.cmpfTotal (F := Ideal) (φ := .f32) .gt) x r j) ≤ f (places (FloatOps.cmpfTotal (F := Ideal) (φ := .f32) .gt) x r i) := by
  let B : Fin N → Fin N → Bool := fun k k' => FloatOps.cmpfTotal (F := Ideal) (φ := .f32) .gt (x (ix2 r k)) (x (ix2 r k')) == 1#1
  have hB : ∀ k k', B k k' = true ↔ f k' < f k := fun k k' => by
    show (_ == _) = true ↔ _
    rw [beq_iff_eq, hf, hf]
    exact (Ideal.cmp_ogt_eq_one _ _).trans EReal.coe_lt_coe_iff
  have hB' : ∀ k k', B k k' = false ↔ f k ≤ f k' := fun k k' => by
    rw [Bool.eq_false_iff, ne_eq, hB, not_lt]
  have key := sortedFrom_noInversion B B (fun a b e => (hB' b a).2 ((hB a b).1 e).le) (fun a b e => e)
    (fun a b c e f => (hB' a c).2 (((hB' a b).1 e).trans ((hB' b c).1 f))) i j hij
  exact (hB' _ _).1 key

end

/-! ## A sort of rows of words -/

/-- A row of words of distinct small numbers, sorted upwards: the numbers in increasing order. -/
theorem sorted_words {R K N : ℕ} (hN : N < 2 ^ 31) (cmp : BitVec 32 → BitVec 32 → BitVec 1) (hcmp : ∀ a b, cmp a b = 1#1 ↔ a.toInt < b.toInt)
    (y : (shape2 R K).Idx → BitVec 32) (r : Fin R) (s : Fin K → Fin N) (hs : Function.Injective s) (hy : ∀ j, y (ix2 r j) = BitVec.ofNat 32 (s j).val) :
    ∃ τ : Fin K → Fin K, Function.Bijective τ ∧ (∀ i j, i < j → s (τ i) < s (τ j))
      ∧ ∀ j, Host.sort (shape2 R K) 1 cmp y (ix2 r j) = BitVec.ofNat 32 (s (τ j)).val := by
  let B : Fin K → Fin K → Bool := fun k k' => cmp (y (ix2 r k)) (y (ix2 r k')) == 1#1
  have hint : ∀ j, (y (ix2 r j)).toInt = ((s j).val : Int) := fun j => by
    have hj := (s j).isLt
    have ht : (BitVec.ofNat 32 (s j).val).toNat = (s j).val := by rw [BitVec.toNat_ofNat]; omega
    rw [hy, BitVec.toInt_eq_toNat_of_lt (by rw [ht]; omega), ht]
  have hB : ∀ k k', B k k' = true ↔ s k < s k' := fun k k' => by
    show (_ == _) = true ↔ _
    rw [beq_iff_eq, hcmp, hint, hint, Fin.lt_def]
    omega
  have hB' : ∀ k k', B k k' = false ↔ s k' ≤ s k := fun k k' => by
    rw [Bool.eq_false_iff, ne_eq, hB, not_lt]
  refine ⟨sortedFrom B, ⟨sortedFrom_injective _, sortedFrom_surjective _⟩, fun i j hij => ?_, fun j => ?_⟩
  · have key := sortedFrom_noInversion B B (fun a b e => (hB' b a).2 ((hB a b).1 e).le) (fun a b e => e)
      (fun a b c e f => (hB' a c).2 (((hB' b c).1 f).trans ((hB' a b).1 e))) i j hij
    refine lt_of_le_of_ne ((hB' _ _).1 key) fun e => ?_
    exact absurd (sortedFrom_injective B (hs e)) (ne_of_lt hij)
  · unfold Host.sort
    rw [dif_pos (show 1 < (shape2 R K).rank from Nat.one_lt_two)]
    have e : ∀ k : Fin K, (ix2 r j).along (s := shape2 R K) ⟨1, Nat.one_lt_two⟩ k = ix2 r k := along_row r j
    show y _ = _
    refine ((congrArg y (e _)).trans (congrArg (fun k => y (ix2 r k)) ?_)).trans (hy _)
    have e' : (fun k k' : Fin K => cmp (y ((ix2 r j).along (s := shape2 R K) ⟨1, Nat.one_lt_two⟩ k)) (y ((ix2 r j).along (s := shape2 R K) ⟨1, Nat.one_lt_two⟩ k')) == 1#1) = B := by
      funext k k'
      rw [e k, e k']
    exact congrFun (congrArg sortedFrom e') j

/-- The words of a row's first places under a rearrangement, sorted upwards: those places in increasing order. -/
theorem sorted_places {R K N : ℕ} (hN : N < 2 ^ 31) (hK : K ≤ N) (cmp : BitVec 32 → BitVec 32 → BitVec 1) (hcmp : ∀ a b, cmp a b = 1#1 ↔ a.toInt < b.toInt)
    (y : (shape2 R K).Idx → BitVec 32) (r : Fin R) (σ : Fin N → Fin N) (hσ : Function.Injective σ)
    (hy : ∀ j : Fin K, y (ix2 r j) = BitVec.ofNat 32 (σ (j.castLE hK)).val) :
    ∃ e : Fin K → Fin N, (∀ i j, i < j → e i < e j) ∧ (∀ c, (∃ j, e j = c) ↔ ∃ i : Fin N, i.val < K ∧ σ i = c)
      ∧ ∀ j, Host.sort (shape2 R K) 1 cmp y (ix2 r j) = BitVec.ofNat 32 (e j).val := by
  obtain ⟨τ, hτ, hlt, hval⟩ := sorted_words hN cmp hcmp y r (fun j => σ (j.castLE hK)) (hσ.comp (Fin.castLE_injective hK)) hy
  refine ⟨fun j => σ ((τ j).castLE hK), hlt, fun c => ⟨?_, ?_⟩, hval⟩
  · rintro ⟨j, hj⟩
    exact ⟨(τ j).castLE hK, (τ j).isLt, hj⟩
  · rintro ⟨i, hi, rfl⟩
    obtain ⟨j, hj⟩ := hτ.2 ⟨i.val, hi⟩
    exact ⟨j, congrArg σ (Fin.ext (show (τ j).val = i.val by rw [hj]))⟩

/-! ## The least word of a row -/

theorem toInt_fold_min {ι : Type} (S : Finset ι) (b : BitVec 32) (g : ι → BitVec 32) :
    (S.fold IntOp.minsi b g).toInt = S.fold min b.toInt fun i => (g i).toInt :=
  (Finset.fold_hom (op := IntOp.minsi) (op' := min) (m := BitVec.toInt) SortNet.toInt_minsi).symm

/-- The least of a row of words, once a member that none is below is known. -/
theorem row_least {R N : ℕ} (x : IVec (shape2 R N) 32) (h : (shape2 R N).Reduces [1] (shape1 R)) (hacc : 2147483647#32 = IKind.minsi.neutral) (r : Fin R)
    (c : Fin N) (hc : ∀ k, (x (ix2 r c)).toInt ≤ (x (ix2 r k)).toInt) :
    multiReductionI .minsi [1] (shape1 R) x 2147483647#32 h hacc (ix1 r) = x (ix2 r c) := by
  have e : multiReductionI .minsi [1] (shape1 R) x 2147483647#32 h hacc (ix1 r)
      = Finset.univ.fold IntOp.minsi 2147483647#32 fun k : Fin N => x (ix2 r k) := by
    pointwise
  rw [e]
  refine BitVec.eq_of_toInt_eq ?_
  rw [toInt_fold_min]
  apply le_antisymm
  · rw [Finset.fold_min_le]
    exact .inr ⟨c, Finset.mem_univ c, le_rfl⟩
  · rw [Finset.le_fold_min]
    refine ⟨?_, fun k _ => hc k⟩
    have : (2147483647#32 : BitVec 32).toInt = 2147483647 := by decide
    rw [this]
    have := BitVec.toInt_lt (x := x (ix2 r c))
    omega

/-! ## The walk through the chosen places -/

section
variable {N K : ℕ} (e : Fin K → Fin N)

open Classical in
/-- Place `c`'s word after `k` picks: its number while it is chosen and unpicked, and `N` otherwise. -/
def leftAt (k : ℕ) (c : Fin N) : BitVec 32 := if ∃ j : Fin K, k ≤ j.val ∧ e j = c then BitVec.ofNat 32 c.val else BitVec.ofNat 32 N

variable (hN : N < 2 ^ 31) (he : ∀ i j, i < j → e i < e j)

include hN in
theorem small_toInt (v : ℕ) (hv : v ≤ N) : (BitVec.ofNat 32 v).toInt = (v : Int) := by
  have ht : (BitVec.ofNat 32 v).toNat = v := by rw [BitVec.toNat_ofNat]; omega
  rw [BitVec.toInt_eq_toNat_of_lt (by rw [ht]; omega), ht]

theorem leftAt_self (k : Fin K) : leftAt e k.val (e k) = BitVec.ofNat 32 (e k).val := if_pos ⟨k, le_rfl, rfl⟩

include hN he in
/-- The next chosen place is the least left. -/
theorem leftAt_least (k : Fin K) (c : Fin N) : (leftAt e k.val (e k)).toInt ≤ (leftAt e k.val c).toInt := by
  rw [leftAt_self, small_toInt hN _ (e k).isLt.le]
  unfold leftAt
  by_cases hc : ∃ j : Fin K, k.val ≤ j.val ∧ e j = c
  · rw [if_pos hc, small_toInt hN _ c.isLt.le]
    obtain ⟨j, hj, rfl⟩ := hc
    rcases Nat.lt_or_ge k.val j.val with h | h
    · have := Fin.lt_def.1 (he k j (Fin.lt_def.2 h)); omega
    · obtain rfl : k = j := Fin.ext (by omega)
      exact le_rfl
  · rw [if_neg hc, small_toInt hN _ le_rfl]
    have := (e k).isLt
    omega

include hN he in
open Classical in
/-- Taking it out leaves the places after one more pick. -/
theorem leftAt_succ (k : Fin K) (c : Fin N) :
    (if leftAt e k.val c = BitVec.ofNat 32 (e k).val then BitVec.ofNat 32 N else leftAt e k.val c) = leftAt e (k.val + 1) c := by
  have hne : ∀ c : Fin N, BitVec.ofNat 32 N ≠ BitVec.ofNat 32 c.val := fun c h => by
    have h := congrArg BitVec.toInt h
    rw [small_toInt hN _ le_rfl, small_toInt hN _ c.isLt.le] at h
    have := c.isLt
    omega
  unfold leftAt
  by_cases hc : ∃ j : Fin K, k.val ≤ j.val ∧ e j = c
  · rw [if_pos hc]
    obtain ⟨j, hj, rfl⟩ := hc
    rcases Nat.lt_or_ge k.val j.val with h | h
    · rw [if_neg, if_pos ⟨j, h, rfl⟩]
      intro hw
      have hw := congrArg BitVec.toInt hw
      rw [small_toInt hN _ (e j).isLt.le, small_toInt hN _ (e k).isLt.le] at hw
      have := Fin.lt_def.1 (he k j (Fin.lt_def.2 h))
      omega
    · obtain rfl : k = j := Fin.ext (by omega)
      rw [if_pos rfl, if_neg]
      rintro ⟨i, hi, hik⟩
      have := Fin.lt_def.1 (he k i (Fin.lt_def.2 (by omega)))
      rw [hik] at this
      omega
  · rw [if_neg hc, if_neg (hne _), if_neg]
    rintro ⟨j, hj, rfl⟩
    exact hc ⟨j, by omega, rfl⟩

end

end Picks01

end
-- ==== Proof.PicksBody.lean ====
/- The selection call's body at a row: the narrowed threshold over the real numbers, the places above it, and the thirty-two picks. -/
module

public import proofs.«01_k».proof.Proof.FilterBracket
public import proofs.«01_k».proof.Proof.PicksFrameIdeal
public import proofs.«01_k».proof.Proof.PicksMath
public import proofs.«01_k».proof.Proof.PicksOps

@[expose] public section

set_option maxRecDepth 16384

noncomputable section

namespace Cert.Kernel3Ideal.Picked

open Cert.Kernel3Ideal Cert.Kernel3Ideal.Gen Idealize.ShloMosaic Filter01 Picks01
open Cert.Kernel2Ideal.Filtered (raised lowered raised_at lowered_at standing_row lying_row sub_at cmp_at const_at)

/-! ## The search -/

/-- Every entry's weight in the count. -/
def ones {F : FTy → Type} [FloatOps F] : FVec F S8x100000 .f32 := broadcast S8x100000 (Scalar.ofBits .f32 0x3F800000#32)

/-- The count that the search compares with. -/
def quota {F : FTy → Type} [FloatOps F] : FVec F S8x1 .f32 := broadcast S8x1 (k0_pay3 (F := F))

theorem round_eq {F : FTy → Type} [FloatOps F] (v0 : Vec F S8x100000 .f32) (acc : FVec F S8x1 .f32 × FVec F S8x1 .f32) :
    round v0 acc = (raised v0 ones quota acc.1 acc.2 16, lowered v0 ones quota acc.1 acc.2 16) := by
  simp only [raised, lowered]
  rfl

theorem ones_at (a : Fin 8) (c : Fin 100000) : ones (F := Ideal) (ix2 a c) = ((1 : ℝ) : EReal) := one_bits

theorem quota_at (a : Fin 8) : quota (F := Ideal) (ix2 a (0 : Fin 1)) = ((((32 : ℕ) : ℝ) + 1 / 2 : ℝ) : EReal) := by
  have e1 : Ideal.ofBits .f32 0x42000000#32 = ((32 : ℝ) : EReal) := by simp [Ideal.ofBits, Ideal.ieee, -EReal.coe_mul]; norm_num
  have e2 : Ideal.ofBits .f32 0x3F000000#32 = ((1 / 2 : ℝ) : EReal) := by simp [Ideal.ofBits, Ideal.ieee, -EReal.coe_mul]; norm_num
  show (Ideal.ofBits .f32 0x42000000#32 : EReal) + Ideal.ofBits .f32 0x3F000000#32 = _
  rw [e1, e2, ← EReal.coe_add]
  norm_num

section
variable (v0 : Vec Ideal S8x100000 .f32) (a : Fin 8) (x : Fin 100000 → ℝ) (hX : ∀ c, v0 (ix2 a c) = (x c : EReal))
include hX

theorem greatest_at : k0_pay2 (F := Ideal) v0 (ix2 a (0 : Fin 1)) = (greatest x : EReal) := by
  unfold k0_pay2
  have e := (standing_row _ a).trans ((row_max (R := 8) (N := 100000) v0 reduces_S8x100000_S8 (.inl rfl) rfl a).trans (fold_max _ x hX))
  exact e

theorem floor_at : k0_pay1 (F := Ideal) v0 (ix2 a (0 : Fin 1)) = ((least x - 1 : ℝ) : EReal) := by
  have e := (standing_row _ a).trans ((row_min (R := 8) (N := 100000) v0 reduces_S8x100000_S8 (.inl rfl) rfl a).trans (fold_min _ x hX))
  unfold k0_pay1
  rw [sub_at, const_at, e]
  rw [one_bits, show (1 : EReal) = ((1 : ℝ) : EReal) from rfl, ← EReal.coe_sub]

omit hX in
theorem search_trips : k0_t1_loop.trips = 8 := rfl

/-- The bracket's upper end is that of the search over the real numbers. -/
theorem bracket_at : (bracket v0).2 (ix2 a (0 : Fin 1)) = (((narrow (Over x 32))^[8] (least x - 1, greatest x)).2 : EReal) := by
  have step : ∀ k : ℕ,
      ((round v0)^[k] (k0_pay1 v0, k0_pay2 v0)).1 (ix2 a (0 : Fin 1)) = (((narrow (Over x 32))^[k] (least x - 1, greatest x)).1 : EReal)
      ∧ ((round v0)^[k] (k0_pay1 v0, k0_pay2 v0)).2 (ix2 a (0 : Fin 1)) = (((narrow (Over x 32))^[k] (least x - 1, greatest x)).2 : EReal) := by
    intro k
    induction k with
    | zero =>
      have h1 := floor_at v0 a x hX
      have h2 := greatest_at v0 a x hX
      simp only [Function.iterate_zero, id_eq]
      exact ⟨h1, h2⟩
    | succ k ih =>
      rw [Function.iterate_succ_apply', Function.iterate_succ_apply', round_eq]
      exact ⟨raised_at _ _ _ _ _ a x (fun _ => 1) _ _ _ hX (ones_at a) (quota_at a) ih.1 ih.2 16 le_rfl,
        lowered_at _ _ _ _ _ a x (fun _ => 1) _ _ _ hX (ones_at a) (quota_at a) ih.1 ih.2 16 le_rfl⟩
  have e : bracket v0 = (round v0)^[8] (k0_pay1 v0, k0_pay2 v0) := by
    unfold bracket
    rw [Scf.fold_eq, List.foldl_const, List.length_finRange, search_trips]
  rw [e]
  exact (step 8).2

end

/-! ## Reading words -/

section
variable {s : Shape}

theorem choose_at (q : IVec s 1) (u v : IVec s 32) (i : s.Idx) : select q u v i = Scalar.select (q i) (u i) (v i) := rfl
theorem same_at (u v : IVec s 32) (i : s.Idx) : cmpi .eq u v i = IntOp.cmpi .eq (u i) (v i) := rfl
theorem fixed_at (w : BitVec 32) (i : s.Idx) : broadcast s w i = w := rfl

end

theorem same_test (w z u v : BitVec 32) : Scalar.select (IntOp.cmpi .eq w z) u v = if w = z then u else v := by
  by_cases e : w = z
  · rw [if_pos e, e]
    have : IntOp.cmpi .eq z z = 1#1 := by simp [IntOp.cmpi]
    rw [this]
    rfl
  · rw [if_neg e]
    have : IntOp.cmpi .eq w z = 0#1 := by
      show BitVec.ofBool (w == z) = 0#1
      rw [beq_eq_false_iff_ne.2 e]
      rfl
    rw [this]
    rfl

open Classical in
theorem above_test (x h : ℝ) (u v : BitVec 32) : Scalar.select (Ideal.cmp .ogt (x : EReal) (h : EReal)) u v = if h < x then u else v := by
  by_cases e : h < x
  · rw [if_pos e, (Ideal.cmp_ogt_eq_one _ _).2 (EReal.coe_lt_coe_iff.2 e)]
    rfl
  · rw [if_neg e]
    exact if_neg fun h' => e (EReal.coe_lt_coe_iff.1 ((Ideal.cmp_ogt_eq_one _ _).1 h'))

theorem lying_numbers (a : Fin 8) (c : Fin 100000) :
    broadcastTo S8x100000 (shapeCast S1x100000 (iota .tc S1x100000 32 [1] iota_S1x100000_d1_w32) shapeCasts_S1x100000_S1x100000) broadcasts_S1x100000_S8x100000 (ix2 a c)
      = BitVec.ofNat 32 c.val := by
  pointwise

theorem standing_word (v : IVec S8 32) (a : Fin 8) : shapeCast S8x1 v shapeCasts_S8_S8x1 (ix2 a (0 : Fin 1)) = v (ix1 a) := by
  pointwise

theorem lying_word (v : IVec S8x1 32) (a : Fin 8) (c : Fin 100000) : broadcastTo S8x100000 v broadcasts_S8x1_S8x100000 (ix2 a c) = v (ix2 a (0 : Fin 1)) := by
  pointwise

theorem lying_result (v : IVec S8x1 32) (a : Fin 8) (j : Fin 32) :
    broadcastTo S8x32 (shapeCast S8x1 v shapeCasts_S8x1_S8x1) broadcasts_S8x1_S8x32 (ix2 a j) = v (ix2 a (0 : Fin 1)) := by
  pointwise

theorem lying_test (k : BitVec 32) (a : Fin 8) (j : Fin 32) :
    broadcastTo S8x32 (shapeCast S1x32 (cmpi .eq (iota .tc S1x32 32 [1] iota_S1x32_d1_w32) (broadcast S1x32 k)) shapeCasts_S1x32_S1x32) broadcasts_S1x32_S8x32 (ix2 a j)
      = IntOp.cmpi .eq (BitVec.ofNat 32 j.val) k := by
  pointwise

/-! ## The picks -/

open Classical in
/-- The places above the threshold. -/
theorem chosen_at (v0 : Vec Ideal S8x100000 .f32) (hi : FVec Ideal S8x1 .f32) (a : Fin 8) (x : Fin 100000 → ℝ) (h : ℝ) (hX : ∀ c, v0 (ix2 a c) = (x c : EReal))
    (hh : hi (ix2 a (0 : Fin 1)) = (h : EReal)) (c : Fin 100000) :
    k0_pay9 (F := Ideal) v0 hi (ix2 a c) = if h < x c then BitVec.ofNat 32 c.val else BitVec.ofNat 32 100000 := by
  unfold k0_pay9
  rw [choose_at, cmp_at, lying_numbers, lying_row, fixed_at, hX, hh]
  exact above_test _ _ _ _

variable (e : Fin 32 → Fin 100000) (he : ∀ i j, i < j → e i < e j) (a : Fin 8)
include he

theorem least_at (mi : IVec S8x100000 32) (k : Fin 32) (hm : ∀ c, mi (ix2 a c) = leftAt e k.val c) :
    k0_pay11 mi (ix2 a (0 : Fin 1)) = BitVec.ofNat 32 (e k).val := by
  have r := (standing_word _ a).trans (row_least (R := 8) (N := 100000) mi reduces_S8x100000_S8 rfl a (e k) fun c => by
    rw [hm, hm]; exact leftAt_least e (by norm_num) he k c)
  rw [hm, leftAt_self] at r
  exact r

theorem left_step (mi : IVec S8x100000 32) (k : Fin 32) (hm : ∀ c, mi (ix2 a c) = leftAt e k.val c) (c : Fin 100000) :
    k0_pay13 mi (ix2 a c) = leftAt e (k.val + 1) c := by
  unfold k0_pay13
  rw [choose_at, same_at, lying_word, fixed_at, least_at e he a mi k hm, hm, same_test]
  have h := leftAt_succ e (by norm_num) he k c
  refine Eq.trans ?_ h
  by_cases hw : leftAt e k.val c = BitVec.ofNat 32 (e k).val
  · rw [if_pos hw]
  · rw [if_neg hw]

theorem result_step (mi : IVec S8x100000 32) (acc : IVec S8x32 32) (t : Fin k0_t2_loop.trips) (k : Fin 32) (ht : t.val = k.val)
    (hm : ∀ c, mi (ix2 a c) = leftAt e k.val c) (j : Fin 32) :
    k0_pay12 t mi acc (ix2 a j) = if j = k then BitVec.ofNat 32 (e k).val else acc (ix2 a j) := by
  unfold k0_pay12
  rw [choose_at, lying_test, lying_result, least_at e he a mi k hm, same_test]
  have hk : (BitVec.ofNat 32 j.val = Scf.iv 0#32 1#32 t.val) ↔ j = k := by
    have hj := j.isLt
    have hk := k.isLt
    have hi : Scf.iv 0#32 1#32 t.val = BitVec.ofNat 32 k.val := by
      unfold Scf.iv
      rw [ht, BitVec.mul_one, BitVec.zero_add]
    rw [hi]
    constructor
    · intro h
      have h := congrArg BitVec.toNat h
      rw [BitVec.toNat_ofNat, BitVec.toNat_ofNat] at h
      exact Fin.ext (by omega)
    · rintro rfl; rfl
  by_cases h : j = k
  · rw [if_pos h, if_pos (hk.2 h)]
  · rw [if_neg h, if_neg fun h' => h (hk.1 h')]

omit he in
/-- What a fold over the trips keeps. -/
theorem fold_keeps {α : Type} : ∀ {n : ℕ} (P : ℕ → α → Prop) (f : Fin n → α → α) (init : α) (_ : P 0 init) (_ : ∀ k acc, P k.val acc → P (k.val + 1) (f k acc)),
    P n ((List.finRange n).foldl (fun acc k => f k acc) init)
  | 0, P, f, init, h0, hs => h0
  | n + 1, P, f, init, h0, hs => by
    rw [List.finRange_succ_last, List.foldl_append, List.foldl_map]
    exact hs (Fin.last n) _ (fold_keeps P (fun k => f k.castSucc) init h0 fun k acc h => hs k.castSucc acc h)

omit he in
theorem pick_trips : k0_t2_loop.trips = 32 := rfl

omit he in
/-- After `k` picks: the places left, and the places picked. -/
def Walked (k : ℕ) (mi : IVec S8x100000 32) (acc : IVec S8x32 32) : Prop :=
  (∀ c, mi (ix2 a c) = leftAt e k c) ∧ ∀ j : Fin 32, j.val < k → acc (ix2 a j) = BitVec.ofNat 32 (e j).val

theorem walked_step (mi : IVec S8x100000 32) (acc : IVec S8x32 32) (t : Fin k0_t2_loop.trips) (h : Walked e a t.val mi acc) :
    Walked e a (t.val + 1) (k0_pay13 mi) (k0_pay12 t mi acc) := by
  obtain ⟨h1, h2⟩ := h
  have ht : t.val < 32 := lt_of_lt_of_eq t.isLt pick_trips
  have l : ∀ c, k0_pay13 mi (ix2 a c) = leftAt e (t.val + 1) c := left_step e he a mi ⟨t.val, ht⟩ h1
  refine ⟨l, fun j hj => ?_⟩
  rw [result_step e he a mi acc t ⟨t.val, ht⟩ rfl h1 j]
  by_cases hjt : j = ⟨t.val, ht⟩
  · rw [if_pos hjt, hjt]
  · rw [if_neg hjt]
    exact h2 j (lt_of_le_of_ne (Nat.le_of_lt_succ hj) fun h' => hjt (Fin.ext h'))

/-- The picks walk through the chosen places in order. -/
theorem picks_at (v0 : Vec Ideal S8x100000 .f32) (hi : FVec Ideal S8x1 .f32) (hc : ∀ c, k0_pay9 (F := Ideal) v0 hi (ix2 a c) = leftAt e 0 c) (j : Fin 32) :
    (picks v0 hi).2 (ix2 a j) = BitVec.ofNat 32 (e j).val := by
  have key := fold_keeps (n := k0_t2_loop.trips) (fun k acc => Walked e a k acc.1 acc.2) pick (k0_pay9 (F := Ideal) v0 hi, k0_pay10)
    ⟨hc, fun j hj => absurd hj (Nat.not_lt_zero _)⟩ (fun t acc h => by
      have p := walked_step e he a acc.1 acc.2 t h
      dsimp only [pick]
      exact p)
  unfold picks
  rw [Scf.fold_eq]
  exact key.2 j (lt_of_lt_of_eq j.isLt pick_trips.symm)

omit he in
theorem whole_in (x0 : Vec Ideal S8x100000 .f32) : View.ld x0 wholeIn = x0 :=
  View.ld_unit_zero (S := S8x100000) (by funext d; match d with | ⟨0, _⟩ => rfl | ⟨1, _⟩ => rfl) _ x0

omit he in
theorem left_eq (x0 : Vec Ideal S8x100000 .f32) : left x0 = picked x0 := by
  unfold left
  exact View.canon_unit_zero (S := S8x32) (by funext d; match d with | ⟨0, _⟩ => rfl | ⟨1, _⟩ => rfl) _ _

/-- The stored block at a row whose places above the narrowed threshold are `e`'s, in order. -/
theorem picked_at (x0 : Vec Ideal S8x100000 .f32) (x : Fin 100000 → ℝ) (hX : ∀ c, x0 (ix2 a c) = (x c : EReal))
    (hx : ∀ c, ((narrow (Over x 32))^[8] (least x - 1, greatest x)).2 < x c ↔ ∃ j, e j = c) (j : Fin 32) :
    picked x0 (ix2 a j) = BitVec.ofNat 32 (e j).val := by
  unfold picked
  rw [whole_in]
  refine picks_at e he a x0 _ (fun c => ?_) j
  refine (chosen_at x0 _ a x _ hX (bracket_at x0 a x hX) c).trans ?_
  unfold leftAt
  by_cases h : ∃ j, e j = c
  · rw [if_pos ((hx c).2 h), if_pos (h.imp fun j hj => ⟨Nat.zero_le _, hj⟩)]
  · rw [if_neg fun h' => h ((hx c).1 h'), if_neg fun h' => h (h'.imp fun j hj => hj.2)]

end Cert.Kernel3Ideal.Picked

end
-- ==== Proof.PicksRun.lean ====
/- The selection call's result array after its run, and that the reference leaves the same row wherever the thirty-second greatest logit stands clear
   of the next. -/
module

public import proofs.«01_k».proof.Defs
public import proofs.«01_k».proof.Proof.PicksBody
public import proofs.«01_k».proof.Proof.FilterCut
public import proofs.«01_k».proof.Proof.FilterRun
public import proofs.«01_k».proof.Proof.Gen.Reference3Ideal.Run
public import proofs.«01_k».proof.Proof.Gen.Reference3Ideal.Read
public import proofs.«01_k».proof.Proof.Gen.Pre_finite
public import proofs.«01_k».proof.Proof.Gen.On_clear_of_a_tie
public import Idealize.ShloMosaic.Lib.Claim
public import Idealize.ShloMosaic.Lib.Pipeline.ValueKit

@[expose] public section

set_option maxRecDepth 16384

noncomputable section

/-! ## The restriction -/

namespace Cert.On_clear_of_a_tie.Picked

open Cert.On_clear_of_a_tie Cert.On_clear_of_a_tie.Gen Idealize.ShloMosaic Filter01 Picks01

/-- The restriction from the greatest logits, and the greatest and the least of each row. -/
def clear (v : FVec Ideal S64x33 .f32) (b e : FVec Ideal S64 .f32) : IVec S64x32 1 :=
  broadcastInDim S64x32 ![0, 1] Facts.bcast_S64x1_S64x32_0_1
    (cmpf .ogt (extractStridedSlice S64x1 ![0, 31] v Facts.slices_S64x33_S64x1_0_31)
      (addf (extractStridedSlice S64x1 ![0, 32] v Facts.slices_S64x33_S64x1_0_32)
        (Host.divf
          (addf (subf (broadcastInDim S64x1 ![0] Facts.bcast_S64_S64x1_0 b) (broadcastInDim S64x1 ![0] Facts.bcast_S64_S64x1_0 e))
            (broadcastInDim S64x1 ![] Facts.bcast_S_S64x1 (constant (F := Ideal) S_ .f32 0x3F800000#32)))
          (broadcastInDim S64x1 ![] Facts.bcast_S_S64x1 (constant (F := Ideal) S_ .f32 0x4F800000#32)))))

variable (x0 : (⟨S64x100000, .f32⟩ : BufTy).Contents (Elt Ideal))

/-- The thirty-three greatest logits, per row. -/
def top : FVec Ideal S64x33 .f32 := (Host.topK S64x33 1 (FloatOps.cmpfTotal (F := Ideal) (φ := .f32) .gt) x0 Facts.sliceFits_S64x100000_S64x33).1

/-- The greatest logit, per row. -/
def greatestOf : FVec Ideal S64 .f32 := Host.reduce FloatOps.maximumf x0 (constant (F := Ideal) S_ .f32 0xFF800000#32) Facts.reducesTo_S64x100000_S64_d1 Facts.h_S_

/-- The least logit, per row. -/
def leastOf : FVec Ideal S64 .f32 := Host.reduce FloatOps.minimumf x0 (constant (F := Ideal) S_ .f32 0x7F800000#32) Facts.reducesTo_S64x100000_S64_d1 Facts.h_S_

theorem fn_eq : fn (F := Ideal) x0 = clear (top x0) (greatestOf x0) (leastOf x0) := rfl

theorem clear_at (v : FVec Ideal S64x33 .f32) (b e : FVec Ideal S64 .f32) (r : Fin 64) (j : Fin 32) :
    clear v b e (ix2 r j)
      = Ideal.cmp .ogt (v (ix2 r (31 : Fin 33)))
          (v (ix2 r (32 : Fin 33)) + Ideal.div (b (ix1 r) - e (ix1 r) + Ideal.ofBits .f32 0x3F800000#32) (Ideal.ofBits .f32 0x4F800000#32)) := by
  pointwise [clear]

/-- The order in which the selection reads a row. -/
def rowPlaces (r : Fin 64) : Fin 100000 → Fin 100000 :=
  places (R := 64) (N := 100000) (α := EReal) (FloatOps.cmpfTotal (F := Ideal) (φ := .f32) .gt) x0 r

theorem rowPlaces_bijective (r : Fin 64) : Function.Bijective (rowPlaces x0 r) :=
  places_bijective (R := 64) (N := 100000) (α := EReal) (FloatOps.cmpfTotal (F := Ideal) (φ := .f32) .gt) x0 r

variable (r : Fin 64) (x : Fin 100000 → ℝ) (hX : ∀ c, x0 (ix2 r c) = (x c : EReal))
include hX

theorem greatestOf_at : greatestOf x0 (ix1 r) = (greatest x : EReal) := by
  unfold greatestOf
  exact (host_row_max (R := 64) (N := 100000) x0 (constant (F := Ideal) S_ .f32 0xFF800000#32) ⊥ (fun p => bottom_bits) _ _ r).trans (fold_max _ x hX)

theorem leastOf_at : leastOf x0 (ix1 r) = (least x : EReal) := by
  unfold leastOf
  exact (host_row_min (R := 64) (N := 100000) x0 (constant (F := Ideal) S_ .f32 0x7F800000#32) ⊤ (fun p => top_bits) _ _ r).trans (fold_min _ x hX)

theorem top_at (j : Fin 33) (j' : Fin 100000) (hj : j'.val = j.val) : top x0 (ix2 r j) = (x (rowPlaces x0 r j') : EReal) := by
  unfold top
  exact (topK_value (R := 64) (N := 100000) (K := 33) (α := EReal) (FloatOps.cmpfTotal (F := Ideal) (φ := .f32) .gt) x0 _ r j j' hj).trans (hX _)

/-- Where the restriction holds, the places above the narrowed threshold are the first thirty-two. -/
theorem above_at (j : Fin 32) (hon : fn (F := Ideal) x0 (ix2 r j) = 1#1) (c : Fin 100000) :
    ((narrow (Over x 32))^[8] (least x - 1, greatest x)).2 < x c ↔ ∃ i : Fin 100000, i.val < 32 ∧ rowPlaces x0 r i = c := by
  rw [fn_eq, clear_at, top_at x0 r x hX 31 ⟨31, by norm_num⟩ rfl, top_at x0 r x hX 32 ⟨32, by norm_num⟩ rfl, greatestOf_at x0 r x hX, leastOf_at x0 r x hX,
    one_bits, Cert.On_clear_of_the_cut.Filtered.sixteen_bits, Ideal.div_coe (by norm_num)] at hon
  have e := (Ideal.cmp_ogt_eq_one _ _).1 hon
  rw [← EReal.coe_one, ← EReal.coe_sub, ← EReal.coe_add, ← EReal.coe_mul, ← EReal.coe_add, mul_one_div] at e
  exact above_iff x (rowPlaces x0 r) (rowPlaces_bijective x0 r)
    (fun i j hij => places_descending (R := 64) (N := 100000) x0 r x hX i j hij) (least x) (greatest x) (fun u => least_le x u) (fun u => le_greatest x u) 32
    ⟨31, by norm_num⟩ ⟨32, by norm_num⟩ rfl rfl (EReal.coe_lt_coe_iff.1 e) c

end Cert.On_clear_of_a_tie.Picked

/-! ## The reference -/

namespace Cert.Reference3Ideal.Picked

open Cert.Reference3Ideal Cert.Reference3Ideal.Gen Cert.Reference3Ideal.Read Idealize.ShloMosaic Filter01 Picks01
open Cert.On_clear_of_a_tie.Picked (rowPlaces rowPlaces_bijective)

variable (x0 : (⟨S64x100000, .f32⟩ : BufTy).Contents (Elt Ideal))

theorem index_at (r : Fin 64) (j : Fin 32) (j' : Fin 100000) (hj : j'.val = j.val) :
    val_main_indices (F := Ideal) x0 (ix2 r j) = BitVec.ofNat 32 (rowPlaces x0 r j').val := by
  unfold val_main_indices
  exact topK_index (R := 64) (N := 100000) (K := 32) (α := EReal) (FloatOps.cmpfTotal (F := Ideal) (φ := .f32) .gt) x0 _ r j j' hj

theorem comparator_iff (a b : BitVec 32) : comparator_i32_d1 a b = 1#1 ↔ a.toInt < b.toInt := by
  show BitVec.ofBool (a.slt b) = 1#1 ↔ _
  rw [BitVec.slt_eq_decide]
  by_cases h : a.toInt < b.toInt <;> simp [h]

/-- A row of the result is the first thirty-two places in increasing order. -/
theorem result_at (r : Fin 64) : ∃ e : Fin 32 → Fin 100000, (∀ i j, i < j → e i < e j)
    ∧ (∀ c, (∃ j, e j = c) ↔ ∃ i : Fin 100000, i.val < 32 ∧ rowPlaces x0 r i = c)
    ∧ ∀ j, val_main_v0 (F := Ideal) x0 (ix2 r j) = BitVec.ofNat 32 (e j).val := by
  unfold val_main_v0
  exact sorted_places (R := 64) (K := 32) (N := 100000) (by norm_num) (by norm_num) comparator_i32_d1 comparator_iff
    (val_main_indices (F := Ideal) x0) r (rowPlaces x0 r) (rowPlaces_bijective x0 r).1 fun j => index_at x0 r j _ rfl

end Cert.Reference3Ideal.Picked

/-! ## The run -/

namespace Cert.Kernel3Ideal.Picked

open Cert.Kernel3Ideal Cert.Kernel3Ideal.Gen Idealize.ShloMosaic Idealize.ShloMosaic.TcCoe Idealize.SL.Sem Filter01 Picks01

variable (m : (ℓ : Loc nD τ sig) → Buf (Elt Ideal) ℓ)

/-- The array's row that is row `a` of the blocks at `t`. -/
def rowAt (t : Fin cfg0.N) (a : Fin 8) : Fin 64 := ⟨8 * t.val + a.val, by have ht : t.val < 8 := t.isLt; have := a.isLt; omega⟩

theorem index_eq (t : Fin cfg0.N) : (BitVec.ofNat 32 (grid0.coords t 0).val).toNat = t.val := by
  have ht : t.val < 8 := t.isLt
  have e := Pipeline.Grid.coords_val (G := grid0) (t : Fin grid0.N) 0 (S := 1) (B := 8) (by decide) rfl
  rw [e, BitVec.toNat_ofNat]
  show t.val / 1 % 8 % 2 ^ 32 = t.val
  omega

theorem block_0 (c : Dev nD) (t : Fin cfg0.N) (a : Fin 8) (k : Fin 100000) :
    iblk m c 0 t (ix2 a k) = m ((c : Thread nD τ).loc main_arg0) (ix2 (rowAt t a) k) := by
  show V m c main_arg0 _ = V m c main_arg0 _
  congr 1
  funext d
  refine Fin.ext ?_
  match d with
  | ⟨0, _⟩ =>
    show (BitVec.ofNat 32 (grid0.coords t 0).val).toNat * 8 + 1 * a.val = 8 * t.val + a.val
    rw [index_eq]; omega
  | ⟨1, _⟩ => show 0 * 100000 + 1 * k.val = k.val; omega

theorem finite_of_pre (h : Cert.Pre_Kernel3Ideal_finite m) (c : Dev nD) (p : S64x100000.Idx) :
    m ((c : Thread nD τ).loc main_arg0) p = ((m ((c : Thread nD τ).loc main_arg0) p : EReal).toReal : EReal) :=
  Cert.Kernel2Ideal.Filtered.real_of_finite _ (congrFun (h c) p)

/-! ### The result array -/

/-- The point that stores row `r`, and the row of its block. -/
def pointOf (r : ℕ) (hr : r < 64) : Fin cfg0.N := ⟨r / 8, by show r / 8 < 8; omega⟩
def within (r : ℕ) : Fin 8 := ⟨r % 8, by omega⟩

theorem rowAt_pointOf (r : Fin 64) : rowAt (pointOf r.val r.isLt) (within r.val) = r := by
  refine Fin.ext ?_
  show 8 * (r.val / 8) + r.val % 8 = r.val
  omega

/-- Entry `(r, j)` of the result. -/
def entry (c : Dev nD) (r : Fin 64) (j : Fin 32) : BitVec 32 := picked (F := Ideal) (iblk m c 0 (pointOf r.val r.isLt)) (ix2 (within r.val) j)

/-- What the result array is to hold. -/
def stored (c : Dev nD) : Buf (Elt Ideal) ((c : Thread nD τ).loc main_v0) := fun i => entry m c ⟨(i 0).val, (i 0).isLt⟩ ⟨(i 1).val, (i 1).isLt⟩

theorem stored_at (c : Dev nD) (i : S64x32.Idx) (r : Fin 64) (k : Fin 32) (hr : (i 0).val = r.val) (hk : (i 1).val = k.val) :
    stored m c i = entry m c r k := by
  obtain rfl : r = ⟨(i 0).val, (i 0).isLt⟩ := Fin.ext hr.symm
  obtain rfl : k = ⟨(i 1).val, (i 1).isLt⟩ := Fin.ext hk.symm
  rfl

theorem block_stored (c : Dev nD) (t : Fin cfg0.N) (a : Fin 8) (j : Fin 32) : picked (F := Ideal) (iblk m c 0 t) (ix2 a j) = entry m c (rowAt t a) j := by
  have ha := a.isLt
  have e1 : pointOf (rowAt t a).val (rowAt t a).isLt = t := Fin.ext (by show (8 * t.val + a.val) / 8 = t.val; omega)
  have e2 : within (rowAt t a).val = a := Fin.ext (by show (8 * t.val + a.val) % 8 = a.val; omega)
  unfold entry
  rw [e1, e2]

/-- The result array after the run. -/
theorem array_eq (c : Dev nD) : (dats m 0 c).arrAt 1 cfg0.N = stored m c := by
  refine (dats m 0 c).arrAt_eq_of_emb 1 _ (fun t hf y => ?_) (fun i => ?_)
  · blk_simp
    rw [after_1, left_eq]
    change S8x32.Idx at y
    have e := (congrArg (picked (F := Ideal) (iblk m c 0 t)) (eq_ix2 (n0 := 8) (n1 := 32) y)).trans (block_stored m c t _ _)
    refine e.trans (stored_at m c _ _ _ ?_ ?_).symm
    · show (BitVec.ofNat 32 (grid0.coords t 0).val).toNat * 8 + 1 * (y 0).val = 8 * t.val + (y 0).val
      rw [index_eq]; omega
    · show 0 * 32 + 1 * (y 1).val = (y 1).val
      omega
  · change S64x32.Idx at i
    have hi : (i 0).val < 64 := (i 0).isLt
    refine ⟨pointOf (i 0).val hi, flush0_1 _, ?_⟩
    refine Finset.mem_map.mpr ⟨ix2 (within (i 0).val) (⟨(i 1).val, (i 1).isLt⟩ : Fin 32), Finset.mem_univ _, ?_⟩
    funext d
    refine Fin.ext ?_
    match d with
    | ⟨0, _⟩ =>
      show (BitVec.ofNat 32 (grid0.coords _ 0).val).toNat * 8 + 1 * ((i 0).val % 8) = (i 0).val
      rw [index_eq]
      show (i 0).val / 8 * 8 + 1 * ((i 0).val % 8) = (i 0).val
      omega
    | ⟨1, _⟩ =>
      show 0 * 32 + 1 * (i 1).val = (i 1).val
      omega

/-! ### The comparison -/

theorem agrees_at (h : Cert.Pre_Kernel3Ideal_finite m) (c : Dev nD) (r : Fin 64) (j : Fin 32)
    (hon : Cert.On_clear_of_a_tie.fn (F := Ideal) (m ((c : Thread nD τ).loc main_arg0)) (ix2 r j) = 1#1) :
    Cert.Reference3Ideal.Read.val_main_v0 (F := Ideal) (m ((c : Thread nD τ).loc main_arg0)) (ix2 r j) = entry m c r j := by
  obtain ⟨e, he, hplaces, hval⟩ := Cert.Reference3Ideal.Picked.result_at (m ((c : Thread nD τ).loc main_arg0)) r
  have habove := Cert.On_clear_of_a_tie.Picked.above_at (m ((c : Thread nD τ).loc main_arg0)) r
    (fun k => (m ((c : Thread nD τ).loc main_arg0) (ix2 r k) : EReal).toReal) (fun k => finite_of_pre m h c _) j hon
  refine (hval j).trans (Eq.symm ?_)
  unfold entry
  refine picked_at e he (within r.val) (iblk m c 0 (pointOf r.val r.isLt)) _ (fun k => ?_) (fun k => (habove k).trans (hplaces k).symm) j
  refine (block_0 m c _ _ k).trans ?_
  rw [rowAt_pointOf]
  exact finite_of_pre m h c _

/-- Where the restriction holds, the reference's result is the kernel's. -/
theorem agrees (h : Cert.Pre_Kernel3Ideal_finite m) (c : Dev nD) (i : S64x32.Idx)
    (hon : Cert.On_clear_of_a_tie.fn (F := Ideal) (m ((c : Thread nD τ).loc main_arg0)) i = 1#1) :
    Cert.Reference3Ideal.Read.val_main_v0 (F := Ideal) (m ((c : Thread nD τ).loc main_arg0)) i = stored m c i := by
  obtain ⟨r, k, rfl⟩ : ∃ (r : Fin 64) (k : Fin 32), i = ix2 r k := ⟨_, _, eq_ix2 (n0 := 64) (n1 := 32) i⟩
  exact (agrees_at m h c r k hon).trans (stored_at m c (ix2 r k) r k rfl rfl).symm

end Cert.Kernel3Ideal.Picked

end
-- ==== Proof.RowsIdeal.lean ====
/- The fetching call's blocks lie inside the table: from the precondition, every index is a row number. -/
module

public import proofs.«01_k».proof.Defs
public import proofs.«01_k».proof.Proof.Gen.Kernel4Ideal
public import proofs.«01_k».proof.Proof.Gen.Kernel4Ideal.Frame
public import proofs.«01_k».proof.Proof.Gen.Pre_rows_named
public import proofs.«01_k».proof.Proof.Rows
public import Idealize.ShloMosaic.Lib.Claim
import Idealize.ShloMosaic.Lib.Pointwise

@[expose] public section

noncomputable section

namespace Cert.Kernel4Ideal.Fetched

open Cert.Kernel4Ideal Cert.Kernel4Ideal.Gen Idealize.ShloMosaic Idealize.ShloMosaic.TcCoe Idealize.SL.Sem Cert.Rows

variable (m : (ℓ : Loc nD τ sig) → Buf (Elt Ideal) ℓ)

/-- The indices as the launch finds them: the argument in row-major order. -/
theorem ids_eq (c : Dev nD) :
    V m c main_v0 = shapeCast S2048 (m ((c : Thread nD τ).loc main_arg0)) shapeCasts_S64x32_S2048 := by
  unfold_abbrev_sides
  after_results
  rfl

/-- The word that the table's index map reads at grid point `i`. -/
theorem word_eq (i : grid0.Coords) (r : Fin 2048) (hr : r.val = (i 0).val) :
    cc0_transform_0 k0_off1_inb numel1_S1 (tbl m) i 0 = (m (((0 : Dev nD) : Thread nD τ).loc main_arg0) (place r)).toNat := by
  have hi := (i 0).isLt
  unfold cc0_transform_0
  show (tbl m 0 _ : BitVec 32).toNat = _
  show (V m 0 main_v0 _ : BitVec 32).toNat = _
  rw [ids_eq]
  congr 1
  refine shapeCast_apply _ _ _ (place r) ?_
  have hoff : BitVec.toNat (Scalar.indexCast (BitVec.ofNat 32 (i 0).val)) = (i 0).val := by
    have h2 : (i 0).val < 2048 := hi
    simp only [Scalar.indexCast, BitVec.toNat_ofNat]
    first | omega | (simp [BitVec.toNat_setWidth]; omega)
  refine Eq.trans ?_ (Shape.rowMajor_val_one _).symm
  rw [Shape.rowMajor_val_two]
  show r.val / 32 * 32 + r.val % 32 = BitVec.toNat (Scalar.indexCast (BitVec.ofNat 32 (i 0).val)) + 1 * 0
  rw [hoff]
  omega

/-- The precondition at one index. -/
theorem inside_of_pre (h : Cert.Pre_Kernel4Ideal m) (p : S64x32.Idx) : Inside (m (((0 : Dev nD) : Thread nD τ).loc main_arg0) p) := by
  have e := congrFun (h 0) p
  simp only [Cert.Pre_rows_named.fn, andi, cmpi, broadcastInDim, constantI, andi_one] at e
  exact e

/-- Every block of the table that a grid point asks for lies inside it. -/
theorem ok_of_pre (h : Cert.Pre_Kernel4Ideal m) : Ok m := by
  intro i
  have hr : (i 0).val < 2048 := (i 0).isLt
  have hw := (inside_of_pre m h (place ⟨(i 0).val, hr⟩)).lt
  have e := word_eq m i ⟨(i 0).val, hr⟩ rfl
  refine ⟨fun a => ?_, .inl rfl⟩
  match a with
  | ⟨0, _⟩ =>
    show (cc0_transform_0 k0_off1_inb numel1_S1 (tbl m) i 0 + 1) * 1 ≤ 100000
    rw [e]; omega
  | ⟨1, _⟩ => exact (by decide : (0 + 1) * 1 ≤ 1)
  | ⟨2, _⟩ => exact (by decide : (0 + 1) * 768 ≤ 768)

end Cert.Kernel4Ideal.Fetched

end
-- ==== Proof.RowsRun.lean ====
/- The fetching call's result array after its run: row `r` holds the row of the table that the `r`-th index names. -/
module

public import proofs.«01_k».proof.Defs
public import proofs.«01_k».proof.Proof.Gen.Kernel4Ideal.Frame
public import proofs.«01_k».proof.Proof.RowsIdeal
public import Idealize.ShloMosaic.Lib.Claim
public import Idealize.ShloMosaic.Lib.Pipeline.ValueKit

@[expose] public section

noncomputable section

namespace Cert.Kernel4Ideal.Fetched

open Cert.Kernel4Ideal Cert.Kernel4Ideal.Gen Idealize.ShloMosaic Idealize.ShloMosaic.TcCoe Idealize.SL.Sem Cert.Rows

variable (m : (ℓ : Loc nD τ sig) → Buf (Elt Ideal) ℓ)

/-- The table as the launch finds it. -/
theorem table_eq (c : Dev nD) :
    V m c main_v1 = shapeCast S100000x1x768 (m ((c : Thread nD τ).loc main_arg1)) shapeCasts_S100000x768_S100000x1x768 := by
  unfold_abbrev_sides
  after_results
  rfl

/-- A table given a unit axis in the middle keeps its entries. -/
theorem spread_table (v : S100000x768.Idx → Ideal .f32) (a : Fin 100000) (j : Fin 768) :
    shapeCast S100000x1x768 v shapeCasts_S100000x768_S100000x1x768 (ix3 a (0 : Fin 1) j) = v (ix2 a j) := by
  refine shapeCast_apply _ _ _ _ ?_
  rw [Shape.rowMajor_val_two, Shape.rowMajor_val_three]
  show a.val * 768 + j.val = (a.val * 1 + 0) * 768 + j.val
  omega

/-- What the result array is to hold. -/
def fetched (c : Dev nD) : Buf (Elt Ideal) ((c : Thread nD τ).loc main_v2) := fun i =>
  taken (m ((c : Thread nD τ).loc main_arg0)) (m ((c : Thread nD τ).loc main_arg1)) ⟨(i 0).val, (i 0).isLt⟩ ⟨(i 2).val, (i 2).isLt⟩

/-- One entry of it, the coordinates given by equations. -/
theorem fetched_at (c : Dev nD) (i : S2048x1x768.Idx) (r : Fin 2048) (j : Fin 768) (hr : (i 0).val = r.val) (hj : (i 2).val = j.val) :
    fetched m c i = taken (m ((c : Thread nD τ).loc main_arg0)) (m ((c : Thread nD τ).loc main_arg1)) r j := by
  obtain rfl : r = ⟨(i 0).val, (i 0).isLt⟩ := Fin.ext hr.symm
  obtain rfl : j = ⟨(i 2).val, (i 2).isLt⟩ := Fin.ext hj.symm
  rfl

/-- The result row that a grid point writes. -/
theorem row_eq (i : grid0.Coords) : cc0_transform_1 i 0 = (i 0).val := by
  have hi : (i 0).val < 2048 := (i 0).isLt
  show (BitVec.ofNat 32 (i 0).val).toNat = (i 0).val
  rw [BitVec.toNat_ofNat]
  omega

/-- The result array after the run. -/
theorem array_eq (h : Cert.Pre_Kernel4Ideal m) (hO : Ok m) (c : Dev nD) :
    (dats m hO 0 c).arrAt 1 (cfgM m hO).N = fetched m c := by
  refine (dats m hO 0 c).arrAt_eq_of_emb 1 _ (fun t hf y => ?_) (fun i => ?_)
  · blk_simp
    rw [after0_1]
    unfold outsAt0
    frame_out
    have hread : View.read (Elt Ideal) (ms0_0 m hO t).view ((hs0_0 m hO t).unread (iblk m hO c 0 t)) = iblk m hO c 0 t :=
      (hs0_0 m hO t).read_unread _
    rw [hread]
    have hpay : k0_pay1 (F := Ideal) (iblk m hO c 0 t) y = iblk m hO c 0 t y := by
      unfold k0_pay1
      exact shapeCast_apply _ _ y y rfl
    rw [hpay]
    change S1x1x768.Idx at y
    have h0 : (y 0).val = 0 := Nat.lt_one_iff.mp (y 0).isLt
    have h1 : (y 1).val = 0 := Nat.lt_one_iff.mp (y 1).isLt
    have hr : (grid0.coords t 0).val < 2048 := (grid0.coords t 0).isLt
    have hw := word_eq m (grid0.coords t) ⟨(grid0.coords t 0).val, hr⟩ rfl
    have hlt := (inside_of_pre m h (place ⟨(grid0.coords t 0).val, hr⟩)).lt
    obtain rfl : c = 0 := Subsingleton.elim _ _
    have hv : iblk m hO 0 0 t y = V m 0 main_v1 (ix3 (named (m (((0 : Dev nD) : Thread nD τ).loc main_arg0) (place ⟨(grid0.coords t 0).val, hr⟩))) (0 : Fin 1) (⟨(y 2).val, (y 2).isLt⟩ : Fin 768)) := by
      show V m 0 main_v1 _ = V m 0 main_v1 _
      congr 1
      funext a
      refine Fin.ext ?_
      match a with
      | ⟨0, _⟩ =>
        show cc0_transform_0 k0_off1_inb numel1_S1 (tbl m) (grid0.coords t) 0 * 1 + 1 * (y 0).val = min _ 99999
        rw [hw, h0]
        omega
      | ⟨1, _⟩ =>
        show 0 * 1 + 1 * (y 1).val = 0
        omega
      | ⟨2, _⟩ =>
        show 0 * 768 + 1 * (y 2).val = (y 2).val
        omega
    rw [hv, table_eq]
    have hplace : (((spec0 1).arr.view.slice ((pcfg0.win (adm m hO) 1).rect t)).emb y 0).val = (grid0.coords t 0).val := by
      show cc0_transform_1 (grid0.coords t) 0 * 1 + 1 * (y 0).val = _
      rw [row_eq, h0]
      omega
    have hcol : (((spec0 1).arr.view.slice ((pcfg0.win (adm m hO) 1).rect t)).emb y 2).val = (y 2).val := by
      show 0 * 768 + 1 * (y 2).val = _
      omega
    refine Eq.trans ?_ (fetched_at m 0 _ ⟨(grid0.coords t 0).val, hr⟩ ⟨(y 2).val, (y 2).isLt⟩ hplace hcol).symm
    exact spread_table _ _ _
  · change S2048x1x768.Idx at i
    refine ⟨⟨(i 0).val, (i 0).isLt⟩, flush0_1 _ _, ?_⟩
    refine Finset.mem_map.mpr ⟨ix3 (0 : Fin 1) (0 : Fin 1) (⟨(i 2).val, (i 2).isLt⟩ : Fin 768), Finset.mem_univ _, ?_⟩
    funext a
    refine Fin.ext ?_
    match a with
    | ⟨0, _⟩ =>
      show cc0_transform_1 (grid0.coords _) 0 * 1 + 1 * 0 = (i 0).val
      rw [row_eq]
      have e := Pipeline.Grid.coords_val (G := grid0) (⟨(i 0).val, (i 0).isLt⟩ : Fin grid0.N) 0 (S := 1) (B := 2048) (by decide) rfl
      have hi : (i 0).val < 2048 := (i 0).isLt
      rw [e]
      show (i 0).val / 1 % 2048 * 1 + 1 * 0 = (i 0).val
      omega
    | ⟨1, _⟩ =>
      show 0 * 1 + 1 * 0 = (i 1).val
      have : (i 1).val = 0 := Nat.lt_one_iff.mp (i 1).isLt
      omega
    | ⟨2, _⟩ =>
      show 0 * 768 + 1 * (i 2).val = (i 2).val
      omega

end Cert.Kernel4Ideal.Fetched

end
-- ==== Proof.RowsReference.lean ====
/- The reference's fetched rows, entry by entry. -/
module

public import proofs.«01_k».proof.Defs
public import proofs.«01_k».proof.Proof.Gen.Reference4Ideal.Read
public import proofs.«01_k».proof.Proof.Rows

@[expose] public section

noncomputable section

namespace Cert.Reference4Ideal.Fetched

open Cert.Reference4Ideal Cert.Reference4Ideal.Gen Cert.Reference4Ideal.Read Idealize.ShloMosaic Idealize.ShloMosaic.TcCoe Cert.Rows

/-- The indices after the reference's adjustment of the negative ones: none is negative, so that they are as they were. -/
theorem word_at (x0 : (⟨S64x32, .i32⟩ : BufTy).Contents (Elt Ideal)) (h : ∀ p, Inside (x0 p)) (b : Fin 64) (k : Fin 32) (z : Fin 1) :
    val_main_call0_v5 (F := Ideal) x0 (ix3 b k z) = x0 (ix2 b k) := by
  pointwise [val_main_call0_v5, val_main_call0_v4, val_main_call0_v1, val_main_call0_v0, val_main_call0_c]
  rw [(h (ix2 b k)).not_negative]
  rfl

/-- The row that is read for an index inside the table. -/
theorem row_at (x0 : (⟨S64x32, .i32⟩ : BufTy).Contents (Elt Ideal)) (x1 : (⟨S100000x768, .f32⟩ : BufTy).Contents (Elt Ideal))
    (h : ∀ p, Inside (x0 p)) (b : Fin 64) (k : Fin 32) (j : Fin 768) :
    val_main_v0 (F := Ideal) x0 x1 (ix3 b k j) = x1 (ix2 (named (x0 (ix2 b k))) j) := by
  rw [val_main_v0_apply, val_main_call0_v14_apply]
  have hm : val_main_call0_v12 (F := Ideal) x0 (idx_main_call0_v14 (ix3 b k j)) = 1#1 := by
    unfold val_main_call0_v12
    pointwise [val_main_call0_v11]
    have e : ∀ x : Fin 1, IntOp.andi (val_main_call0_v7 (F := Ideal) x0 (ix3 b k x)) (val_main_call0_v10 (F := Ideal) x0 (ix3 b k x)) = 1#1 := fun x => by
      rw [val_main_call0_v7_apply, val_main_call0_v10_apply, word_at x0 h b k x]
      obtain ⟨g0, g1⟩ := h (ix2 b k)
      pointwise [val_main_call0_v6, val_main_call0_c_2, val_main_call0_v9, val_main_call0_v8, val_main_call0_c_1]
      rw [andi_one]
      exact ⟨g0, (h (ix2 b k)).at_most⟩
    simp only [e]
    rfl
  rw [hm]
  unfold val_main_call0_v13 Host.gather
  show x1 _ = x1 _
  congr 1
  funext a
  refine Fin.ext ?_
  have hp := (h (ix2 b k)).lt
  match a with
  | ⟨0, _⟩ =>
    show (gather_S100000x768_S64x32x1_S64x32x768_2_0_n_n_0_2_1768.start (ix3 b k j) (val_main_call0_v5 x0) 0
      + gather_S100000x768_S64x32x1_S64x32x768_2_0_n_n_0_2_1768.batchCoord (ix3 b k j) 0
      + gather_S100000x768_S64x32x1_S64x32x768_2_0_n_n_0_2_1768.offCoord (ix3 b k j) 0) = min (x0 (ix2 b k)).toNat 99999
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ gather_S100000x768_S64x32x1_S64x32x768_2_0_n_n_0_2_1768.startIndexMap from List.mem_singleton.mpr rfl)]
    have hsi : gather_S100000x768_S64x32x1_S64x32x768_2_0_n_n_0_2_1768.siIdx (ix3 b k j)
        ⟨List.idxOf (0 : Fin 2) gather_S100000x768_S64x32x1_S64x32x768_2_0_n_n_0_2_1768.startIndexMap,
          List.idxOf_lt_length_iff.2 (List.mem_singleton.mpr rfl)⟩ = ix3 b k (0 : Fin 1) := by
      funext e; refine Fin.ext ?_
      match e with
      | ⟨0, _⟩ => rfl
      | ⟨1, _⟩ => rfl
      | ⟨2, _⟩ => rfl
    rw [hsi, word_at x0 h b k 0]
    show min (x0 (ix2 b k)).toInt.toNat (100000 - 1) + 0 + 0 = min (x0 (ix2 b k)).toNat 99999
    rw [BitVec.toInt_eq_toNat_cond, if_pos (by omega), Int.toNat_natCast]
    omega
  | ⟨1, _⟩ =>
    show (gather_S100000x768_S64x32x1_S64x32x768_2_0_n_n_0_2_1768.start (ix3 b k j) (val_main_call0_v5 x0) 1
      + gather_S100000x768_S64x32x1_S64x32x768_2_0_n_n_0_2_1768.batchCoord (ix3 b k j) 1
      + gather_S100000x768_S64x32x1_S64x32x768_2_0_n_n_0_2_1768.offCoord (ix3 b k j) 1) = j.val
    rw [GatherDims.batchCoord_eq_zero _ _ _ List.not_mem_nil]
    unfold GatherDims.start
    rw [dif_neg (by decide)]
    rw [Nat.zero_add]
    rfl

/-- Entry `j` of row `r` of the reference's result. -/
theorem result_at (x0 : (⟨S64x32, .i32⟩ : BufTy).Contents (Elt Ideal)) (x1 : (⟨S100000x768, .f32⟩ : BufTy).Contents (Elt Ideal))
    (h : ∀ p, Inside (x0 p)) (r : Fin 2048) (z : Fin 1) (j : Fin 768) :
    val_main_v1 (F := Ideal) x0 x1 (ix3 r z j) = taken x0 x1 r j := by
  rw [val_main_v1_apply]
  have e : idx_main_v1 (ix3 r z j) = ix3 (⟨r.val / 32, by have := r.isLt; omega⟩ : Fin 64) (⟨r.val % 32, by omega⟩ : Fin 32) j := by
    have hz : z.val = 0 := by omega
    have hj := j.isLt
    funext a
    refine Fin.ext ?_
    match a with
    | ⟨0, _⟩ => show ((r.val * 1 + z.val) * 768 + j.val) / 24576 = r.val / 32; omega
    | ⟨1, _⟩ => show ((r.val * 1 + z.val) * 768 + j.val) / 768 % 32 = r.val % 32; omega
    | ⟨2, _⟩ => show ((r.val * 1 + z.val) * 768 + j.val) % 768 = j.val; omega
  rw [e]
  exact row_at x0 x1 h _ _ j

end Cert.Reference4Ideal.Fetched

end
-- ==== Proof.ScoresKernel.lean ====
/- What the kernel's one grid point stores, element by element: the standardised scores of Scores.lean, over the arrays as the
   body loads them (the neighbours as a flat table of 2048 rows, the two offsets as one-row arrays). -/
module

public import proofs.«01_k».proof.Defs
public import proofs.«01_k».proof.Proof.Gen.KernelIdeal.Skeleton
public import proofs.«01_k».proof.Proof.Scores

@[expose] public section

noncomputable section

namespace Cert.KernelIdeal.Scored

open Cert.KernelIdeal Cert.KernelIdeal.Gen Idealize.ShloMosaic Cert.Scores

/-- The skew part of the rotation weights. -/
theorem theta_at (w : Vec Ideal S768x768 .f32) (a b : Fin 768) :
    k0_pay3 (F := Ideal) w w (ix2 a b) = skew (fun a b => w (ix2 a b)) a b := by
  pointwise [k0_pay3, skew]

/-- The turned neighbour. -/
theorem turned_at (e : Vec Ideal S2048x768 .f32) (w : Vec Ideal S768x768 .f32) (b : Fin 64) (k : Fin 32) (d : Fin 768) :
    k0_pay7 (F := Ideal) e w w (ix3 b k d)
      = turn (skew fun a b => w (ix2 a b)) (fun j => e (ix2 (row b k) j)) d := by
  pointwise [k0_pay7, k0_pay2, theta_at, turn, row]

/-- The first bilinear term: the turned neighbour against the query. -/
theorem term0_at (s : Vec Ideal S64x768 .f32) (e : Vec Ideal S2048x768 .f32) (w : Vec Ideal S768x768 .f32)
    (b : Fin 64) (k : Fin 32) :
    k0_pay8 (F := Ideal) s e w w (ix2 b k)
      = pairing (turn (skew fun a b => w (ix2 a b)) fun j => e (ix2 (row b k) j)) (fun j => s (ix2 b j)) := by
  pointwise [k0_pay8, turned_at, pairing]

/-- The second bilinear term: the turned query against the neighbour. -/
theorem term1_at (s : Vec Ideal S64x768 .f32) (e : Vec Ideal S2048x768 .f32) (w : Vec Ideal S768x768 .f32)
    (b : Fin 64) (k : Fin 32) :
    k0_pay9 (F := Ideal) s e w w (ix2 b k)
      = pairing (turn (skew fun a b => w (ix2 a b)) fun j => s (ix2 b j)) (fun j => e (ix2 (row b k) j)) := by
  pointwise [k0_pay9, k0_pay6, k0_pay2, theta_at, pairing, turn, row]

/-- The third bilinear term: the turned neighbour against the neighbour. -/
theorem term2_at (e : Vec Ideal S2048x768 .f32) (w : Vec Ideal S768x768 .f32) (b : Fin 64) (k : Fin 32) :
    k0_pay10 (F := Ideal) e w w (ix2 b k)
      = pairing (turn (skew fun a b => w (ix2 a b)) fun j => e (ix2 (row b k) j)) (fun j => e (ix2 (row b k) j)) := by
  pointwise [k0_pay10, k0_pay6, k0_pay2, turned_at, pairing, row]

/-- The query's share of the hidden layer. -/
theorem query_at (s : Vec Ideal S64x768 .f32) (W1 : Vec Ideal S1536x256 .f32) (b : Fin 64) (h : Fin 256) :
    k0_pay11 (F := Ideal) s W1 (ix2 b h) = ∑ j, s (ix2 b j) * W1 (ix2 (lower j) h) := by
  pointwise [k0_pay11, lower]

/-- The neighbour's share of the hidden layer. -/
theorem neighbour_at (e : Vec Ideal S2048x768 .f32) (W1 : Vec Ideal S1536x256 .f32) (b : Fin 64) (k : Fin 32) (h : Fin 256) :
    k0_pay12 (F := Ideal) e W1 (ix3 b k h) = ∑ j, e (ix2 (row b k) j) * W1 (ix2 (upper j) h) := by
  pointwise [k0_pay12, k0_pay2, upper, row]

/-- The stored value over the terms of the mixture: `q`, `n` the two shares of the hidden layer, `t0 t1 t2` the bilinear
    terms. -/
theorem stored_at (b1 : Vec Ideal S1x256 .f32) (W2 : Vec Ideal S256x3 .f32) (b2 : Vec Ideal S1x3 .f32)
    (t0 t1 t2 : FVec Ideal S64x32 .f32) (q : FVec Ideal S64x256 .f32) (n : FVec Ideal S64x32x256 .f32)
    (b : Fin 64) (k : Fin 32) :
    k0_pay1 (F := Ideal) (k0_pay4 b1) W2 (k0_pay5 b2) t0 t1 t2 q n (ix2 b k)
      = standard (fun k =>
          (∑ h, max (n (ix3 b k h) + q (ix2 b h) + b1 (ix2 0 h)) 0 * W2 (ix2 h 0) + b2 (ix2 0 0)) * t0 (ix2 b k)
            + (∑ h, max (n (ix3 b k h) + q (ix2 b h) + b1 (ix2 0 h)) 0 * W2 (ix2 h 1) + b2 (ix2 0 1)) * t1 (ix2 b k)
            + (∑ h, max (n (ix3 b k h) + q (ix2 b h) + b1 (ix2 0 h)) 0 * W2 (ix2 h 2) + b2 (ix2 0 2)) * t2 (ix2 b k)) k := by
  pointwise [k0_pay1, k0_pay4, k0_pay5, standard, spread, mean]

/-- What the body stores at `(b, k)`, over the arrays it loads: the standardised score. -/
theorem body_at (s : Vec Ideal S64x768 .f32) (e : Vec Ideal S2048x768 .f32) (w : Vec Ideal S768x768 .f32)
    (W1 : Vec Ideal S1536x256 .f32) (b1 : Vec Ideal S1x256 .f32) (W2 : Vec Ideal S256x3 .f32) (b2 : Vec Ideal S1x3 .f32)
    (b : Fin 64) (k : Fin 32) :
    k0_pay1 (F := Ideal) (k0_pay4 b1) W2 (k0_pay5 b2) (k0_pay8 s e w w) (k0_pay9 s e w w) (k0_pay10 e w w)
        (k0_pay11 s W1) (k0_pay12 e W1) (ix2 b k)
      = standard (fun k => raw (fun j => s (ix2 b j)) (fun j => e (ix2 (row b k) j)) (skew fun a b => w (ix2 a b))
          (fun j h => W1 (ix2 j h)) (fun h => b1 (ix2 0 h)) (fun h p => W2 (ix2 h p)) (fun p => b2 (ix2 0 p))) k := by
  rw [stored_at]
  congr 1
  funext k
  simp only [term0_at, term1_at, term2_at, query_at, neighbour_at, raw, beta, preact]
  have hs : ∀ h : Fin 256, (∑ j, e (ix2 (row b k) j) * W1 (ix2 (upper j) h)) + (∑ j, s (ix2 b j) * W1 (ix2 (lower j) h))
      = (∑ j, s (ix2 b j) * W1 (ix2 (lower j) h)) + ∑ j, e (ix2 (row b k) j) * W1 (ix2 (upper j) h) := fun h => add_comm _ _
  simp only [hs]

end Cert.KernelIdeal.Scored

end
-- ==== Proof.ScoresRun.lean ====
/- The kernel's result array after its run, over the arguments as launched. The launch has one grid point and every window is a
   whole array, so that the array after the run is what the body stores, and what the body loads are the arguments, three of
   them through the reshapes that the host makes first. -/
module

public import proofs.«01_k».proof.Defs
public import proofs.«01_k».proof.Proof.Gen.KernelIdeal.Value
public import proofs.«01_k».proof.Proof.ScoresKernel
public import Idealize.ShloMosaic.Lib.Claim

@[expose] public section

noncomputable section

namespace Cert.KernelIdeal.Scored

open Cert.KernelIdeal Cert.KernelIdeal.Gen Idealize.ShloMosaic Idealize.ShloMosaic.TcCoe Idealize.SL.Sem Cert.Scores

variable (m : (ℓ : Loc nD τ sig) → Buf (Elt Ideal) ℓ)

/-- The one grid point. -/
def point : Fin cfg0.N := ⟨0, by decide⟩

/-- A two-axis offset with both entries nought, entry by entry. -/
theorem offset_zero {f : Fin 2 → Nat} (h0 : f 0 = 0) (h1 : f 1 = 0) : f = fun _ => 0 :=
  funext fun a => by fin_cases a <;> assumption

/-- The result array holds what the one point wrote back. -/
theorem array_eq (c : Dev nD) : (dats m 0 c).arrAt 7 cfg0.N = (dats m 0 c).flushed 7 point := by
  have h := Cert.KernelIdeal.Value.blocks7 m c point (by decide)
  have hz : (fun a => win0_7.index point a * main_v3.ty.shape.size a) = fun _ => 0 := offset_zero (by decide) (by decide)
  have hr := fun f => Memref.read_access_unit_zero (Elt Ideal) main_v3 hz (fun a => by fin_cases a <;> decide) f
  exact (hr _).symm.trans h

/-- What the body leaves in the output buffer, over whole input buffers. -/
theorem stored_eq (x0 : Vec Ideal S64x768 .f32) (x1 : Vec Ideal S2048x768 .f32) (x2 : Vec Ideal S768x768 .f32)
    (x3 : Vec Ideal S1536x256 .f32) (x4 : Vec Ideal S1x256 .f32) (x5 : Vec Ideal S256x3 .f32) (x6 : Vec Ideal S1x3 .f32) :
    out0_7 x0 x1 x2 x3 x4 x5 x6
      = k0_pay1 (k0_pay4 x4) x5 (k0_pay5 x6) (k0_pay8 x0 x1 x2 x2) (k0_pay9 x0 x1 x2 x2) (k0_pay10 x1 x2 x2)
          (k0_pay11 x0 x3) (k0_pay12 x1 x3) := by
  have hz : (![0, 0] : Fin 2 → Nat) = fun _ => 0 := funext fun a => by fin_cases a <;> rfl
  unfold out0_7
  rw [View.canon_unit_zero hz]
  rw [View.ld_unit_zero (S := S64x768) hz, View.ld_unit_zero (S := S2048x768) hz, View.ld_unit_zero (S := S768x768) hz,
    View.ld_unit_zero (S := S1536x256) hz, View.ld_unit_zero (S := S1x256) hz, View.ld_unit_zero (S := S256x3) hz,
    View.ld_unit_zero (S := S1x3) hz]

/-- The neighbours as the launch finds them. -/
theorem table_eq (c : Dev nD) :
    V m c main_v0 = shapeCast S2048x768 (m ((c : Thread nD τ).loc main_arg1)) shapeCasts_S2048x1x768_S2048x768 := by
  unfold_abbrev_sides
  after_results
  rfl

/-- The first offset as the launch finds it. -/
theorem offset1_eq (c : Dev nD) :
    V m c main_v1 = shapeCast S1x256 (m ((c : Thread nD τ).loc main_arg4)) shapeCasts_S256_S1x256 := by
  unfold_abbrev_sides
  after_results
  rfl

/-- The second offset as the launch finds it. -/
theorem offset2_eq (c : Dev nD) :
    V m c main_v2 = shapeCast S1x3 (m ((c : Thread nD τ).loc main_arg6)) shapeCasts_S3_S1x3 := by
  unfold_abbrev_sides
  after_results
  rfl

/-- The block of window 0 is the whole array. -/
theorem block0_eq (c : Dev nD) : iblk m c 0 point = V m c main_arg0 := by
  have hz : (fun a => win0_0.index point a * main_arg0.ty.shape.size a) = fun _ => 0 := offset_zero (by decide) (by decide)
  exact Memref.read_access_unit_zero (Elt Ideal) main_arg0 hz (fun a => by fin_cases a <;> decide) _

/-- The block of window 1 is the whole array. -/
theorem block1_eq (c : Dev nD) : iblk m c 1 point = V m c main_v0 := by
  have hz : (fun a => win0_1.index point a * main_v0.ty.shape.size a) = fun _ => 0 := offset_zero (by decide) (by decide)
  exact Memref.read_access_unit_zero (Elt Ideal) main_v0 hz (fun a => by fin_cases a <;> decide) _

/-- The block of window 2 is the whole array. -/
theorem block2_eq (c : Dev nD) : iblk m c 2 point = V m c main_arg2 := by
  have hz : (fun a => win0_2.index point a * main_arg2.ty.shape.size a) = fun _ => 0 := offset_zero (by decide) (by decide)
  exact Memref.read_access_unit_zero (Elt Ideal) main_arg2 hz (fun a => by fin_cases a <;> decide) _

/-- The block of window 3 is the whole array. -/
theorem block3_eq (c : Dev nD) : iblk m c 3 point = V m c main_arg3 := by
  have hz : (fun a => win0_3.index point a * main_arg3.ty.shape.size a) = fun _ => 0 := offset_zero (by decide) (by decide)
  exact Memref.read_access_unit_zero (Elt Ideal) main_arg3 hz (fun a => by fin_cases a <;> decide) _

/-- The block of window 4 is the whole array. -/
theorem block4_eq (c : Dev nD) : iblk m c 4 point = V m c main_v1 := by
  have hz : (fun a => win0_4.index point a * main_v1.ty.shape.size a) = fun _ => 0 := offset_zero (by decide) (by decide)
  exact Memref.read_access_unit_zero (Elt Ideal) main_v1 hz (fun a => by fin_cases a <;> decide) _

/-- The block of window 5 is the whole array. -/
theorem block5_eq (c : Dev nD) : iblk m c 5 point = V m c main_arg5 := by
  have hz : (fun a => win0_5.index point a * main_arg5.ty.shape.size a) = fun _ => 0 := offset_zero (by decide) (by decide)
  exact Memref.read_access_unit_zero (Elt Ideal) main_arg5 hz (fun a => by fin_cases a <;> decide) _

/-- The block of window 6 is the whole array. -/
theorem block6_eq (c : Dev nD) : iblk m c 6 point = V m c main_v2 := by
  have hz : (fun a => win0_6.index point a * main_v2.ty.shape.size a) = fun _ => 0 := offset_zero (by decide) (by decide)
  exact Memref.read_access_unit_zero (Elt Ideal) main_v2 hz (fun a => by fin_cases a <;> decide) _

/-- The result at `(b, k)` after the run: the standardised score of the arguments as launched. -/
theorem result_at (c : Dev nD) (b : Fin 64) (k : Fin 32) :
    (dats m 0 c).arrAt 7 cfg0.N (ix2 b k)
      = standard (fun k => raw (fun j => m ((c : Thread nD τ).loc main_arg0) (ix2 b j))
          (fun j => m ((c : Thread nD τ).loc main_arg1) (ix3 (row b k) 0 j))
          (skew fun a b => m ((c : Thread nD τ).loc main_arg2) (ix2 a b))
          (fun j h => m ((c : Thread nD τ).loc main_arg3) (ix2 j h)) (fun h => m ((c : Thread nD τ).loc main_arg4) (ix1 h))
          (fun h p => m ((c : Thread nD τ).loc main_arg5) (ix2 h p)) (fun p => m ((c : Thread nD τ).loc main_arg6) (ix1 p))) k := by
  rw [array_eq, Cert.KernelIdeal.Value.flushed7]
  rw [block0_eq, block1_eq, block2_eq, block3_eq, block4_eq, block5_eq, block6_eq, stored_eq, V_main_arg0, V_main_arg2,
    V_main_arg3, V_main_arg5, table_eq, offset1_eq, offset2_eq]
  refine (body_at _ _ _ _ _ _ _ b k).trans ?_
  pointwise

end Cert.KernelIdeal.Scored

end
-- ==== Proof.ScoresReference.lean ====
/- The reference's result, element by element: the standardised scores of Scores.lean over the arguments. -/
module

public import proofs.«01_k».proof.Defs
public import proofs.«01_k».proof.Proof.Gen.ReferenceIdeal.Read
public import proofs.«01_k».proof.Proof.Scores

@[expose] public section

noncomputable section

namespace Cert.ReferenceIdeal.Scored

open Cert.ReferenceIdeal Cert.ReferenceIdeal.Gen Cert.ReferenceIdeal.Read Idealize.ShloMosaic Cert.Scores

variable (s : BufTy.Contents (Elt Ideal) ⟨S64x768, .f32⟩) (e : BufTy.Contents (Elt Ideal) ⟨S2048x1x768, .f32⟩)
  (w : BufTy.Contents (Elt Ideal) ⟨S768x768, .f32⟩) (W1 : BufTy.Contents (Elt Ideal) ⟨S1536x256, .f32⟩)
  (b1 : BufTy.Contents (Elt Ideal) ⟨S256, .f32⟩) (W2 : BufTy.Contents (Elt Ideal) ⟨S256x3, .f32⟩)
  (b2 : BufTy.Contents (Elt Ideal) ⟨S3, .f32⟩)

/-- The skew part of the rotation weights. -/
theorem theta_at (a b : Fin 768) : val_main_v3 (F := Ideal) w (ix2 a b) = skew (fun a b => w (ix2 a b)) a b := by
  pointwise [val_main_v3, val_main_v2, val_main_v1, val_main_v0, val_main_cst, skew]

/-- The hidden layer before the rectifier: the product with the concatenated rows is the sum of the two products. -/
theorem hidden_at (b : Fin 64) (k : Fin 32) (h : Fin 256) :
    val_main_v11 (F := Ideal) s e W1 b1 (ix3 b k h)
      = preact (fun j => s (ix2 b j)) (fun j => e (ix3 (row b k) 0 j)) (fun j h => W1 (ix2 j h)) (fun h => b1 (ix1 h)) h := by
  pointwise [val_main_v4, val_main_v5, val_main_v6, val_main_v7, val_main_v8, val_main_v9, val_main_v10, val_main_v11,
    preact, lower, upper, row]

/-- The mixing coefficients. -/
theorem beta_at (b : Fin 64) (k : Fin 32) (p : Fin 3) :
    val_main_v16 (F := Ideal) s e W1 b1 W2 b2 (ix3 b k p)
      = beta (fun j => s (ix2 b j)) (fun j => e (ix3 (row b k) 0 j)) (fun j h => W1 (ix2 j h)) (fun h => b1 (ix1 h))
          (fun h p => W2 (ix2 h p)) (fun p => b2 (ix1 p)) p := by
  pointwise [val_main_v12, val_main_v13, val_main_v14, val_main_v15, val_main_v16, val_main_call0_v0, val_main_call0_cst,
    hidden_at, beta]

/-- The first bilinear term. -/
theorem term0_at (b : Fin 64) (k : Fin 32) :
    val_main_v22 (F := Ideal) s e w (ix2 b k)
      = pairing (turn (skew fun a b => w (ix2 a b)) fun j => e (ix3 (row b k) 0 j)) (fun j => s (ix2 b j)) := by
  pointwise [val_main_v17, val_main_v18, val_main_v21, val_main_v22, val_main_v4, val_main_v5, val_main_v6, val_main_cst_0,
    theta_at, pairing, turn, row]

/-- The second bilinear term. -/
theorem term1_at (b : Fin 64) (k : Fin 32) :
    val_main_v24 (F := Ideal) s e w (ix2 b k)
      = pairing (turn (skew fun a b => w (ix2 a b)) fun j => s (ix2 b j)) (fun j => e (ix3 (row b k) 0 j)) := by
  pointwise [val_main_v19, val_main_v20, val_main_v23, val_main_v24, val_main_v4, val_main_v5, val_main_v6, val_main_cst_1,
    theta_at, pairing, turn, row]

/-- The third bilinear term. -/
theorem term2_at (b : Fin 64) (k : Fin 32) :
    val_main_v26 (F := Ideal) e w (ix2 b k)
      = pairing (turn (skew fun a b => w (ix2 a b)) fun j => e (ix3 (row b k) 0 j)) (fun j => e (ix3 (row b k) 0 j)) := by
  pointwise [val_main_v17, val_main_v18, val_main_v25, val_main_v26, val_main_v4, val_main_cst_2, theta_at, pairing, turn, row]

/-- The raw score. -/
theorem raw_at (b : Fin 64) (k : Fin 32) :
    val_main_v37 (F := Ideal) s e w W1 b1 W2 b2 (ix2 b k)
      = raw (fun j => s (ix2 b j)) (fun j => e (ix3 (row b k) 0 j)) (skew fun a b => w (ix2 a b)) (fun j h => W1 (ix2 j h))
          (fun h => b1 (ix1 h)) (fun h p => W2 (ix2 h p)) (fun p => b2 (ix1 p)) := by
  pointwise [val_main_v27, val_main_v28, val_main_v29, val_main_v30, val_main_v31, val_main_v32, val_main_v33, val_main_v34,
    val_main_v35, val_main_v36, val_main_v37, beta_at, term0_at, term1_at, term2_at, raw]

/-- The divisor of the standard deviation, 32 less a correction of nought, is 32. -/
theorem divisor : val_main_call1_call0_v8 (F := Ideal) ix0 = Ideal.ofBits .f32 0x42000000#32 := by
  pointwise [val_main_call1_call0_v8, val_main_call1_call0_v7, val_main_call1_call0_cst_1, val_main_c]
  have h : FloatOps.sitofp (F := Ideal) .f32 (0#32 : BitVec 32) = (0 : EReal) := by
    simp [FloatOps.sitofp]
  rw [h]
  simp

/-- 32 is above nought, so that the standard deviation never takes the value kept for an empty sample. -/
theorem divisor_pos : val_main_call1_call0_v13 (F := Ideal) ix0 = 1#1 := by
  pointwise [val_main_call1_call0_v13, val_main_call1_call0_cst_3, divisor]
  have h : (0 : EReal) < Ideal.ofBits .f32 0x42000000#32 := by
    rw [show Ideal.ofBits .f32 0x42000000#32 = ((32 : ℝ) : EReal) by simp [Ideal.ofBits, Ideal.ieee, -EReal.coe_mul]; norm_num]
    exact_mod_cast (by norm_num : (0 : ℝ) < 32)
  simp [h]

/-- The mean square distance from the mean. -/
theorem spread_at (b : Fin 64) :
    val_main_call1_v0 (F := Ideal) s e w W1 b1 W2 b2 (ix2 b 0)
      = spread (fun k => val_main_v37 (F := Ideal) s e w W1 b1 W2 b2 (ix2 b k)) := by
  pointwise [val_main_call1_v0, divisor_pos, val_main_call1_call0_v12, val_main_call1_call0_v11, val_main_call1_call0_v10,
    val_main_call1_call0_v9, val_main_call1_call0_v6, val_main_call1_call0_v5, val_main_call1_call0_v4, val_main_call1_call0_v3,
    val_main_call1_call0_v2, val_main_call1_call0_v1, val_main_call1_call0_v0, val_main_call1_call0_cst,
    val_main_call1_call0_cst_0, val_main_call1_call0_cst_2, divisor, spread, mean]

/-- The reference's result at `(b, k)`: the standardised score. -/
theorem result_at (b : Fin 64) (k : Fin 32) :
    val_main_v48 (F := Ideal) s e w W1 b1 W2 b2 (ix2 b k)
      = standard (fun k => raw (fun j => s (ix2 b j)) (fun j => e (ix3 (row b k) 0 j)) (skew fun a b => w (ix2 a b))
          (fun j h => W1 (ix2 j h)) (fun h => b1 (ix1 h)) (fun h p => W2 (ix2 h p)) (fun p => b2 (ix1 p))) k := by
  have hr : (fun k => raw (fun j => s (ix2 b j)) (fun j => e (ix3 (row b k) 0 j)) (skew fun a b => w (ix2 a b))
      (fun j h => W1 (ix2 j h)) (fun h => b1 (ix1 h)) (fun h p => W2 (ix2 h p)) (fun p => b2 (ix1 p)))
      = fun k => val_main_v37 (F := Ideal) s e w W1 b1 W2 b2 (ix2 b k) := funext fun k => (raw_at s e w W1 b1 W2 b2 b k).symm
  rw [hr]
  pointwise [val_main_v48, val_main_v47, val_main_v46, val_main_v45, val_main_v44, val_main_v43, val_main_v41, val_main_v40,
    val_main_v39, val_main_v38, val_main_v42, val_main_cst_3, val_main_cst_4, val_main_cst_5, spread_at, standard, mean]

end Cert.ReferenceIdeal.Scored

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_rows_named
public import proofs.«01_k».proof.Proof.Gen.Pre_named_and_finite
public import proofs.«01_k».proof.Proof.Gen.Pre_finite
public import proofs.«01_k».proof.Proof.Gen.On_clear_of_the_cut
public import proofs.«01_k».proof.Proof.Gen.On_clear_of_a_tie
public import proofs.«01_k».proof.Proof.FilterFrameKernel
public import proofs.«01_k».proof.Proof.FilterFrameIdeal
public import proofs.«01_k».proof.Proof.FilterRun
public import proofs.«01_k».proof.Proof.PicksFrameKernel
public import proofs.«01_k».proof.Proof.PicksFrameIdeal
public import proofs.«01_k».proof.Proof.PicksRun
public import proofs.«01_k».proof.Proof.RowsKernel
public import proofs.«01_k».proof.Proof.RowsIdeal
public import proofs.«01_k».proof.Proof.RowsRun
public import proofs.«01_k».proof.Proof.RowsReference
public import proofs.«01_k».proof.Proof.ScoresRun
public import proofs.«01_k».proof.Proof.ScoresReference
public import Idealize.ShloMosaic.Lib.Claim
public import Idealize.ShloMosaic.Adequacy
public import Idealize.ShloMosaic.Init

@[expose] public section

noncomputable section

namespace Cert.Proof

open Idealize.ShloMosaic Idealize.SL.Sem

/-- The bias scores: over the extended reals the kernel's run and the reference's run leave the same array. -/
theorem scores : Cert.algebraic_KernelIdeal_ReferenceIdeal := by
  pair_intro
  · run_from Cert.KernelIdeal.Value.run_blocks m g
  · run_from Cert.ReferenceIdeal.Value.run m' g'
    obtain ⟨h0, h1, h2, h3, h4, h5, h6⟩ := hagree c
    rw [Cert.ReferenceIdeal.Read.val_main_v48_eq, h0, h1, h2, h3, h4, h5, h6]
    funext i
    rw [eq_ix2 i]
    exact (Cert.ReferenceIdeal.Scored.result_at _ _ _ _ _ _ _ _ _).trans (Cert.KernelIdeal.Scored.result_at m c _ _).symm

/-- The reference's frame: its run leaves the arguments as launched, and it has no counter. -/
theorem reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The gather's reference's frame. -/
theorem fetch_reference_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The fetched rows: where every index names a row of the table, the kernel's run and the reference's run leave the same array. -/
theorem rows : Cert.algebraic_Kernel4Ideal_Reference4Ideal := by
  intro m g m' g' hpre hagree
  refine ⟨Cert.Kernel4Ideal.Fetched.fetched m, ?_, ?_⟩
  · have hO := Cert.Kernel4Ideal.Fetched.ok_of_pre m hpre
    refine (θ_run Cert.Kernel4Ideal.defs _ _).mono (fun r h c => ?_) (Cert.Kernel4Ideal.Gen.run_main m g hO)
    exact ⟨((h c).1 1).trans (Cert.Kernel4Ideal.Fetched.array_eq m hpre hO c),
      ((h c).2 Cert.Kernel4Ideal.main_arg0 (by decide : Cert.Kernel4Ideal.main_arg0 ∈ Pipeline.restRefs Cert.Kernel4Ideal.sig Cert.Kernel4Ideal.spec0)).trans
        (Cert.Kernel4Ideal.Gen.V_main_arg0 m c),
      ((h c).2 Cert.Kernel4Ideal.main_arg1 (by decide : Cert.Kernel4Ideal.main_arg1 ∈ Pipeline.restRefs Cert.Kernel4Ideal.sig Cert.Kernel4Ideal.spec0)).trans
        (Cert.Kernel4Ideal.Gen.V_main_arg1 m c)⟩
  · refine (θ_run Cert.Reference4Ideal.defs _ _).mono (fun r h c => ⟨(h c).1.trans ?_, (h c).2⟩) (Cert.Reference4Ideal.Value.run m' g')
    obtain ⟨h0, h1⟩ := hagree c
    rw [Cert.Reference4Ideal.Read.val_main_v1_eq, h0, h1]
    obtain rfl : c = 0 := Subsingleton.elim _ _
    funext i
    refine (congrArg _ (eq_ix3 (n0 := 2048) (n1 := 1) (n2 := 768) i)).trans ?_
    exact Cert.Reference4Ideal.Fetched.result_at _ _ (Cert.Kernel4Ideal.Fetched.inside_of_pre m hpre) _ _ _

/-- The filter's reference's frame. -/
theorem filter_reference_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The filtered logits: on finite arguments whose names are columns, the two runs leave the same entry wherever it is clear of the cut. -/
theorem filter : Cert.algebraic_Kernel2Ideal_Reference2Ideal_on_clear_of_the_cut_pre_named_and_finite := by
  intro m g m' g' hpre hagree
  refine ⟨Cert.Kernel2Ideal.Filtered.stored m, ?_, ?_⟩
  · have hrun := Cert.Kernel2Ideal.Filtered.run m g
    refine (θ_run Cert.Kernel2Ideal.defs _ _).mono (fun r h c => ?_) (θ_run_and hrun (Cert.Kernel2Ideal.Filtered.frame m g))
    have e := ((h.1 c).1 4).trans (Cert.Kernel2Ideal.Filtered.array_eq m hpre c)
    exact ⟨fun i _ => congrFun e i, h.2.1 c⟩
  · refine (θ_run Cert.Reference2Ideal.defs _ _).mono (fun r h c => ⟨fun i hon => ?_, (h c).2⟩) (Cert.Reference2Ideal.Value.run m' g')
    obtain ⟨h0, h1, h2, h3⟩ := hagree c
    have e := (h c).1.trans (Cert.Reference2Ideal.Read.val_main_v82_eq _)
    refine (congrFun e i).trans ?_
    refine Eq.trans ?_ (Cert.Kernel2Ideal.Filtered.agrees m hpre c i hon)
    rw [← h0, ← h1, ← h2, ← h3]

/-- The selection's reference: a host program without counters runs, leaves its argument alone, and has no counter to leave off zero. -/
theorem picks_reference_frame : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The places of the thirty-two greatest logits: on finite logits, the two runs leave the same row wherever the thirty-second stands clear of the next. -/
theorem picks : Cert.algebraic_Kernel3Ideal_Reference3Ideal_on_clear_of_a_tie_pre_finite := by
  intro m g m' g' hpre hagree
  refine ⟨Cert.Kernel3Ideal.Picked.stored m, ?_, ?_⟩
  · have hrun := Cert.Kernel3Ideal.Picked.run m g
    refine (θ_run Cert.Kernel3Ideal.defs _ _).mono (fun r h c => ?_) (θ_run_and hrun (Cert.Kernel3Ideal.Picked.frame m g))
    have e := ((h.1 c).1 1).trans (Cert.Kernel3Ideal.Picked.array_eq m c)
    exact ⟨fun i _ => congrFun e i, h.2.1 c⟩
  · refine (θ_run Cert.Reference3Ideal.defs _ _).mono (fun r h c => ⟨fun i hon => ?_, (h c).2⟩) (Cert.Reference3Ideal.Value.run m' g')
    have e := (h c).1.trans (Cert.Reference3Ideal.Read.val_main_v0_eq _)
    refine (congrFun e i).trans ?_
    refine Eq.trans ?_ (Cert.Kernel3Ideal.Picked.agrees m hpre c i hon)
    rw [← hagree c]

/-- Every claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_named_and_finite.Gen.facts, Cert.Pre_finite.Gen.facts, Cert.Pre_rows_named.Gen.facts,
    Cert.On_clear_of_the_cut.Gen.facts, Cert.On_clear_of_a_tie.Gen.facts,
    fun m ρ _ => Cert.Kernel.Gen.frame m ρ, fun m ρ _ => Cert.KernelIdeal.Gen.frame m ρ, reference_frame,
    fun m ρ _ => Cert.Kernel2.Filtered.frame m ρ, fun m ρ _ => Cert.Kernel2Ideal.Filtered.frame m ρ,
    fun m ρ _ => Cert.Kernel2Ideal.Filtered.frame m ρ, filter_reference_frame, fun m ρ _ => filter_reference_frame m ρ trivial,
    fun m ρ _ => Cert.Kernel3.Picked.frame m ρ, fun m ρ _ => Cert.Kernel3Ideal.Picked.frame m ρ,
    fun m ρ _ => Cert.Kernel3Ideal.Picked.frame m ρ, picks_reference_frame, fun m ρ _ => picks_reference_frame m ρ trivial,
    fun m ρ h => Cert.Kernel4.Gen.frame m ρ (Cert.Kernel4.Fetched.ok_of_pre m h),
    fun m ρ h => Cert.Kernel4Ideal.Gen.frame m ρ (Cert.Kernel4Ideal.Fetched.ok_of_pre m h),
    fetch_reference_frame, trivial, scores, trivial, filter, trivial, picks, trivial, rows⟩

end Cert.Proof

end
